-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150_0) = v0 c
          ∧ r.2.mem ((c.tc : Thread Cert.ReferenceIdeal.nD Cert.ReferenceIdeal.τ).loc Cert.ReferenceIdeal.main_v150_1) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x6x128 : Shape := ⟨4, ![4, 4096, 6, 128]⟩
abbrev S4x4096x1x128 : Shape := ⟨4, ![4, 4096, 1, 128]⟩
abbrev S4x4096 : Shape := ⟨2, ![4, 4096]⟩
abbrev S768x1024 : Shape := ⟨2, ![768, 1024]⟩
abbrev S6x8 : Shape := ⟨2, ![6, 8]⟩
abbrev S64 : Shape := ⟨1, ![64]⟩
abbrev S_ : Shape := ⟨0, ![]⟩
abbrev S64x1 : Shape := ⟨2, ![64, 1]⟩
abbrev S64x128 : Shape := ⟨2, ![64, 128]⟩
abbrev S4x6x4096x128 : Shape := ⟨4, ![4, 6, 4096, 128]⟩
abbrev S4x1x4096x128 : Shape := ⟨4, ![4, 1, 4096, 128]⟩
abbrev S4x4096x768 : Shape := ⟨3, ![4, 4096, 768]⟩
abbrev S4x4096x1024 : Shape := ⟨3, ![4, 4096, 1024]⟩
abbrev S4x8x4096 : Shape := ⟨3, ![4, 8, 4096]⟩
abbrev S1x6x512x128 : Shape := ⟨4, ![1, 6, 512, 128]⟩
abbrev S1x1x512x128 : Shape := ⟨4, ![1, 1, 512, 128]⟩
abbrev S4x512 : Shape := ⟨2, ![4, 512]⟩
abbrev S1x512x768 : Shape := ⟨3, ![1, 512, 768]⟩
abbrev S1x512x1024 : Shape := ⟨3, ![1, 512, 1024]⟩
abbrev S1x8x512 : Shape := ⟨3, ![1, 8, 512]⟩
abbrev S1024x512 : Shape := ⟨2, ![1024, 512]⟩
abbrev S8x128x128 : Shape := ⟨3, ![8, 128, 128]⟩
abbrev S1x1 : Shape := ⟨2, ![1, 1]⟩
abbrev S128x128 : Shape := ⟨2, ![128, 128]⟩
abbrev S4x128 : Shape := ⟨2, ![4, 128]⟩
abbrev S128 : Shape := ⟨1, ![128]⟩
abbrev S1x128 : Shape := ⟨2, ![1, 128]⟩
abbrev S1x1x128x128 : Shape := ⟨4, ![1, 1, 128, 128]⟩
abbrev S1x64x128 : Shape := ⟨3, ![1, 64, 128]⟩
abbrev S239x128 : Shape := ⟨2, ![239, 128]⟩
abbrev S1x128x128 : Shape := ⟨3, ![1, 128, 128]⟩
abbrev S8x128 : Shape := ⟨2, ![8, 128]⟩
abbrev S1x8x128 : Shape := ⟨3, ![1, 8, 128]⟩
abbrev S768x512 : Shape := ⟨2, ![768, 512]⟩
abbrev S512x768 : Shape := ⟨2, ![512, 768]⟩
abbrev S4x4096x8 : Shape := ⟨3, ![4, 4096, 8]⟩

abbrev nBuf : Space → Nat
  | .hbm => 31
  | .vmem => 19
  | .smem => 1
  | _ => 0

abbrev bufTy : (tb : Table) → Fin (tcTables nBuf tb) → BufTy
  | .hbm, ⟨0, _⟩ => ⟨S4x4096x6x128, .bf16⟩
  | .hbm, ⟨1, _⟩ => ⟨S4x4096x1x128, .bf16⟩
  | .hbm, ⟨2, _⟩ => ⟨S4x4096x1x128, .bf16⟩
  | .hbm, ⟨3, _⟩ => ⟨S4x4096, .i32⟩
  | .hbm, ⟨4, _⟩ => ⟨S768x1024, .fp8e4m3⟩
  | .hbm, ⟨5, _⟩ => ⟨S6x8, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64x1, .f32⟩
  | .hbm, ⟨23, _⟩ => ⟨S64x128, .f32⟩
  | .hbm, ⟨24, _⟩ => ⟨S4x6x4096x128, .bf16⟩
  | .hbm, ⟨25, _⟩ => ⟨S4x1x4096x128, .bf16⟩
  | .hbm, ⟨26, _⟩ => ⟨S4x1x4096x128, .bf16⟩
  | .hbm, ⟨27, _⟩ => ⟨S4x4096x768, .bf16⟩
  | .hbm, ⟨28, _⟩ => ⟨S4x4096x1024, .fp8e5m2⟩
  | .hbm, ⟨29, _⟩ => ⟨S4x8x4096, .f32⟩
  | .hbm, ⟨30, _⟩ => ⟨S4x4096x8, .f32⟩
  | .local _ .vmem, ⟨0, _⟩ => ⟨S1x6x512x128, .bf16⟩
  | .local _ .vmem, ⟨1, _⟩ => ⟨S1x6x512x128, .bf16⟩
  | .local _ .vmem, ⟨2, _⟩ => ⟨S1x1x512x128, .bf16⟩
  | .local _ .vmem, ⟨3, _⟩ => ⟨S1x1x512x128, .bf16⟩
  | .local _ .vmem, ⟨4, _⟩ => ⟨S1x1x512x128, .bf16⟩
  | .local _ .vmem, ⟨5, _⟩ => ⟨S1x1x512x128, .bf16⟩
  | .local _ .vmem, ⟨6, _⟩ => ⟨S4x512, .i32⟩
  | .local _ .vmem, ⟨7, _⟩ => ⟨S4x512, .i32⟩
  | .local _ .vmem, ⟨8, _⟩ => ⟨S64x128, .f32⟩
  | .local _ .vmem, ⟨9, _⟩ => ⟨S768x1024, .fp8e4m3⟩
  | .local _ .vmem, ⟨10, _⟩ => ⟨S1x512x768, .bf16⟩
  | .local _ .vmem, ⟨11, _⟩ => ⟨S1x512x768, .bf16⟩
  | .local _ .vmem, ⟨12, _⟩ => ⟨S1x512x1024, .fp8e5m2⟩
  | .local _ .vmem, ⟨13, _⟩ => ⟨S1x512x1024, .fp8e5m2⟩
  | .local _ .vmem, ⟨14, _⟩ => ⟨S1x8x512, .f32⟩
  | .local _ .vmem, ⟨15, _⟩ => ⟨S1x8x512, .f32⟩
  | .local _ .vmem, ⟨16, _⟩ => ⟨S768x1024, .bf16⟩
  | .local _ .vmem, ⟨17, _⟩ => ⟨S1024x512, .bf16⟩
  | .local _ .vmem, ⟨18, _⟩ => ⟨S8x128x128, .f32⟩
  | .local _ .smem, ⟨0, _⟩ => ⟨S6x8, .f32⟩
  | _, _ => ⟨S4x4096x6x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x6x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S6x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F]
-- ==== ReferenceIdeal.lean ====
abbrev S4x4096x6x128 : Shape := ⟨4, ![4, 4096, 6, 128]⟩
abbrev S4x4096x1x128 : Shape := ⟨4, ![4, 4096, 1, 128]⟩
abbrev S4x4096 : Shape := ⟨2, ![4, 4096]⟩
abbrev S768x1024 : Shape := ⟨2, ![768, 1024]⟩
abbrev S6x8 : Shape := ⟨2, ![6, 8]⟩
abbrev S239 : Shape := ⟨1, ![239]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S4x4096x6x64x2 : Shape := ⟨5, ![4, 4096, 6, 64, 2]⟩
abbrev S4x4096x6x64x1 : Shape := ⟨5, ![4, 4096, 6, 64, 1]⟩
abbrev S4x4096x6x64 : Shape := ⟨4, ![4, 4096, 6, 64]⟩
abbrev S4x4096x1x64 : Shape := ⟨4, ![4, 4096, 1, 64]⟩
abbrev S4x4096x1x64x2 : Shape := ⟨5, ![4, 4096, 1, 64, 2]⟩
abbrev S4x4096x1x64x1 : Shape := ⟨5, ![4, 4096, 1, 64, 1]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x239 : Shape := ⟨4, ![1, 1, 1, 239]⟩
abbrev S4x4096x8x239 : Shape := ⟨4, ![4, 4096, 8, 239]⟩
abbrev S4x4096x1024 : Shape := ⟨3, ![4, 4096, 1024]⟩
abbrev S6x128x8 : Shape := ⟨3, ![6, 128, 8]⟩
abbrev S768x8 : Shape := ⟨2, ![768, 8]⟩
abbrev S768x8x128 : Shape := ⟨3, ![768, 8, 128]⟩
abbrev S4x4096x768 : Shape := ⟨3, ![4, 4096, 768]⟩

abbrev nBuf : Space → Nat
  | .hbm => 202
  | .vmem => 6
  | .smem => 0
  | _ => 0

abbrev hbmTy0_0 (i : Nat) : BufTy := match i % 128 with
  | 0 => ⟨S4x4096x6x128, .bf16⟩
  | 1 => ⟨S4x4096x1x128, .bf16⟩
  | 2 => ⟨S4x4096x1x128, .bf16⟩
  | 3 => ⟨S4x4096, .i32⟩
  | 4 => ⟨S768x1024, .fp8e4m3⟩
  | 5 => ⟨S6x8, .f32⟩
  | 6 => ⟨S239, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S4x4096, .f32⟩
  | 24 => ⟨S4x4096x1, .f32⟩
  | 25 => ⟨S1x1x64, .f32⟩
  | 26 => ⟨S4x4096x64, .f32⟩
  | 27 => ⟨S4x4096x64, .f32⟩
  | 28 => ⟨S4x4096x64, .f32⟩
  | 29 => ⟨S_, .f32⟩
  | 30 => ⟨S4x4096x64, .f32⟩
  | 31 => ⟨S4x4096x64, .f32⟩
  | 32 => ⟨S4x4096x64, .f32⟩
  | 33 => ⟨S_, .f32⟩
  | 34 => ⟨S4x4096x64, .f32⟩
  | 35 => ⟨S4x4096x64, .f32⟩
  | 36 => ⟨S4x4096x64, .f32⟩
  | 37 => ⟨S_, .f32⟩
  | 38 => ⟨S4x4096x64, .f32⟩
  | 39 => ⟨S4x4096x64, .f32⟩
  | 40 => ⟨S4x4096x64, .f32⟩
  | 41 => ⟨S_, .f32⟩
  | 42 => ⟨S4x4096x64, .f32⟩
  | 43 => ⟨S4x4096x64, .f32⟩
  | 44 => ⟨S4x4096x64, .f32⟩
  | 45 => ⟨S4x4096x64, .f32⟩
  | 46 => ⟨S_, .f32⟩
  | 47 => ⟨S4x4096x64, .f32⟩
  | 48 => ⟨S4x4096x64, .f32⟩
  | 49 => ⟨S_, .f32⟩
  | 50 => ⟨S4x4096x64, .f32⟩
  | 51 => ⟨S4x4096x64, .f32⟩
  | 52 => ⟨S4x4096x64, .f32⟩
  | 53 => ⟨S_, .f32⟩
  | 54 => ⟨S4x4096x64, .f32⟩
  | 55 => ⟨S4x4096x64, .f32⟩
  | 56 => ⟨S4x4096x64, .f32⟩
  | 57 => ⟨S_, .f32⟩
  | 58 => ⟨S4x4096x64, .f32⟩
  | 59 => ⟨S4x4096x64, .f32⟩
  | 60 => ⟨S4x4096x64, .f32⟩
  | 61 => ⟨S_, .f32⟩
  | 62 => ⟨S4x4096x64, .f32⟩
  | 63 => ⟨S4x4096x64, .f32⟩
  | 64 => ⟨S_, .f32⟩
  | 65 => ⟨S4x4096x64, .f32⟩
  | 66 => ⟨S4x4096x64, .f32⟩
  | 67 => ⟨S4x4096x64, .f32⟩
  | 68 => ⟨S_, .f32⟩
  | 69 => ⟨S4x4096x64, .f32⟩
  | 70 => ⟨S4x4096x64, .f32⟩
  | 71 => ⟨S4x4096x64, .f32⟩
  | 72 => ⟨S_, .f32⟩
  | 73 => ⟨S4x4096x64, .f32⟩
  | 74 => ⟨S4x4096x64, .f32⟩
  | 75 => ⟨S4x4096x64, .f32⟩
  | 76 => ⟨S_, .f32⟩
  | 77 => ⟨S4x4096x64, .f32⟩
  | 78 => ⟨S4x4096x64, .f32⟩
  | 79 => ⟨S4x4096x64, .i32⟩
  | 80 => ⟨S_, .i32⟩
  | 81 => ⟨S4x4096x64, .i32⟩
  | 82 => ⟨S4x4096x64, .i32⟩
  | 83 => ⟨S_, .i32⟩
  | 84 => ⟨S4x4096x64, .i32⟩
  | 85 => ⟨S4x4096x64, .i1⟩
  | 86 => ⟨S_, .i32⟩
  | 87 => ⟨S4x4096x64, .i32⟩
  | 88 => ⟨S4x4096x64, .i1⟩
  | 89 => ⟨S4x4096x64, .f32⟩
  | 90 => ⟨S_, .i32⟩
  | 91 => ⟨S4x4096x64, .i32⟩
  | 92 => ⟨S4x4096x64, .i1⟩
  | 93 => ⟨S4x4096x64, .f32⟩
  | 94 => ⟨S4x4096x64, .f32⟩
  | 95 => ⟨S4x4096x64, .f32⟩
  | 96 => ⟨S4x4096x64, .f32⟩
  | 97 => ⟨S_, .i32⟩
  | 98 => ⟨S4x4096x64, .i32⟩
  | 99 => ⟨S4x4096x64, .i1⟩
  | 100 => ⟨S_, .i32⟩
  | 101 => ⟨S4x4096x64, .i32⟩
  | 102 => ⟨S4x4096x64, .i1⟩
  | 103 => ⟨S_, .i32⟩
  | 104 => ⟨S4x4096x64, .i32⟩
  | 105 => ⟨S4x4096x64, .i1⟩
  | 106 => ⟨S4x4096x64, .f32⟩
  | 107 => ⟨S4x4096x64, .f32⟩
  | 108 => ⟨S4x4096x64, .f32⟩
  | 109 => ⟨S4x4096x64, .f32⟩
  | 110 => ⟨S4x4096x64, .f32⟩
  | 111 => ⟨S4x4096x6x128, .f32⟩
  | 112 => ⟨S4x4096x6x64x2, .f32⟩
  | 113 => ⟨S4x4096x6x64x1, .f32⟩
  | 114 => ⟨S4x4096x6x64, .f32⟩
  | 115 => ⟨S4x4096x6x64x1, .f32⟩
  | 116 => ⟨S4x4096x6x64, .f32⟩
  | 117 => ⟨S4x4096x1x64, .f32⟩
  | 118 => ⟨S4x4096x1x64, .f32⟩
  | 119 => ⟨S4x4096x6x64, .f32⟩
  | 120 => ⟨S4x4096x6x64, .f32⟩
  | 121 => ⟨S4x4096x6x64, .f32⟩
  | 122 => ⟨S4x4096x6x64, .f32⟩
  | 123 => ⟨S4x4096x6x64, .f32⟩
  | 124 => ⟨S4x4096x6x64, .f32⟩
  | 125 => ⟨S4x4096x6x64, .f32⟩
  | 126 => ⟨S4x4096x6x64, .f32⟩
  | 127 => ⟨S4x4096x6x64, .f32⟩
  | _ => ⟨S4x4096x6x128, .bf16⟩

abbrev hbmTy0_1 (i : Nat) : BufTy := match i % 128 with
  | 0 => ⟨S4x4096x6x64, .f32⟩
  | 1 => ⟨S4x4096x6x64x1, .f32⟩
  | 2 => ⟨S4x4096x6x64x1, .f32⟩
  | 3 => ⟨S4x4096x6x64x2, .f32⟩
  | 4 => ⟨S4x4096x6x128, .f32⟩
  | 5 => ⟨S4x4096x1x128, .f32⟩
  | 6 => ⟨S4x4096x1x64x2, .f32⟩
  | 7 => ⟨S4x4096x1x64x1, .f32⟩
  | 8 => ⟨S4x4096x1x64, .f32⟩
  | 9 => ⟨S4x4096x1x64x1, .f32⟩
  | 10 => ⟨S4x4096x1x64, .f32⟩
  | 11 => ⟨S4x4096x1x64, .f32⟩
  | 12 => ⟨S4x4096x1x64, .f32⟩
  | 13 => ⟨S4x4096x1x64, .f32⟩
  | 14 => ⟨S4x4096x1x64, .f32⟩
  | 15 => ⟨S4x4096x1x64, .f32⟩
  | 16 => ⟨S4x4096x1x64, .f32⟩
  | 17 => ⟨S4x4096x1x64, .f32⟩
  | 18 => ⟨S4x4096x1x64, .f32⟩
  | 19 => ⟨S4x4096x1x64x1, .f32⟩
  | 20 => ⟨S4x4096x1x64x1, .f32⟩
  | 21 => ⟨S4x4096x1x64x2, .f32⟩
  | 22 => ⟨S4x4096x1x128, .f32⟩
  | 23 => ⟨S4x4096x1x128, .f32⟩
  | 24 => ⟨S4x4096x8x128, .f32⟩
  | 25 => ⟨S4x4096x8x128, .f32⟩
  | 26 => ⟨S_, .f32⟩
  | 27 => ⟨S4x4096x8, .f32⟩
  | 28 => ⟨S_, .f32⟩
  | 29 => ⟨S4x4096x8, .f32⟩
  | 30 => ⟨S4x4096x8, .f32⟩
  | 31 => ⟨S4x4096x8x1, .f32⟩
  | 32 => ⟨S1x1x1x239, .f32⟩
  | 33 => ⟨S4x4096x8x239, .f32⟩
  | 34 => ⟨S4x4096x8x239, .f32⟩
  | 35 => ⟨S4x4096x8x239, .i1⟩
  | 36 => ⟨S_, .f32⟩
  | 37 => ⟨S4x4096x8x239, .f32⟩
  | 38 => ⟨S4x4096x8x239, .f32⟩
  | 39 => ⟨S4x4096x8x239, .f32⟩
  | 40 => ⟨S_, .f32⟩
  | 41 => ⟨S4x4096x8, .f32⟩
  | 42 => ⟨S_, .f32⟩
  | 43 => ⟨S4x4096x8, .f32⟩
  | 44 => ⟨S4x4096x8, .i1⟩
  | 45 => ⟨S_, .f32⟩
  | 46 => ⟨S_, .f32⟩
  | 47 => ⟨S4x4096x8, .f32⟩
  | 48 => ⟨S4x4096x8, .f32⟩
  | 49 => ⟨S_, .f32⟩
  | 50 => ⟨S4x4096x8, .f32⟩
  | 51 => ⟨S4x4096x8, .f32⟩
  | 52 => ⟨S4x4096x8x1, .f32⟩
  | 53 => ⟨S4x4096x8x128, .f32⟩
  | 54 => ⟨S4x4096x8x128, .f32⟩
  | 55 => ⟨S_, .f32⟩
  | 56 => ⟨S_, .f32⟩
  | 57 => ⟨S_, .f32⟩
  | 58 => ⟨S4x4096x8x128, .f32⟩
  | 59 => ⟨S4x4096x8x128, .f32⟩
  | 60 => ⟨S_, .f32⟩
  | 61 => ⟨S4x4096x8x128, .f32⟩
  | 62 => ⟨S4x4096x8x128, .f32⟩
  | 63 => ⟨S4x4096x1024, .f32⟩
  | 64 => ⟨S4x4096x8, .bf16⟩
  | 65 => ⟨S4x4096x8x128, .bf16⟩
  | 66 => ⟨S4x4096x1024, .bf16⟩
  | 67 => ⟨S6x8, .bf16⟩
  | 68 => ⟨S6x128x8, .bf16⟩
  | 69 => ⟨S768x8, .bf16⟩
  | 70 => ⟨S768x8x128, .bf16⟩
  | 71 => ⟨S768x1024, .bf16⟩
  | 72 => ⟨S4x4096x768, .bf16⟩
  | 73 => ⟨S4x4096x1024, .fp8e5m2⟩
  | _ => ⟨S4x4096x6x128, .bf16⟩

abbrev hbmTy (i : Nat) : BufTy := match i / 128 with
  | 0 => hbmTy0_0 i
  | 1 => hbmTy0_1 i
  | _ => ⟨S4x4096x6x128, .bf16⟩

abbrev bufTy : (tb : Table) → Fin (tcTables nBuf tb) → BufTy
  | .hbm, ⟨i, _⟩ => hbmTy i
  | .local _ .vmem, ⟨0, _⟩ => ⟨S4x4096x1024, .f32⟩
  | .local _ .vmem, ⟨1, _⟩ => ⟨S4x4096x1024, .bf16⟩
  | .local _ .vmem, ⟨2, _⟩ => ⟨S768x1024, .fp8e4m3⟩
  | .local _ .vmem, ⟨3, _⟩ => ⟨S768x1024, .bf16⟩
  | .local _ .vmem, ⟨4, _⟩ => ⟨S4x4096x768, .bf16⟩
  | .local _ .vmem, ⟨5, _⟩ => ⟨S4x4096x1024, .fp8e5m2⟩
  | _, _ => ⟨S4x4096x6x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c : Ref sig .tc := ⟨.hbm, 80, rfl⟩
abbrev main_v55 : Ref sig .tc := ⟨.hbm, 81, rfl⟩
abbrev main_v56 : Ref sig .tc := ⟨.hbm, 82, rfl⟩
abbrev main_c_18 : Ref sig .tc := ⟨.hbm, 83, rfl⟩
abbrev main_v57 : Ref sig .tc := ⟨.hbm, 84, rfl⟩
abbrev main_v58 : Ref sig .tc := ⟨.hbm, 85, rfl⟩
abbrev main_c_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_20 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_21 : Ref sig .tc := ⟨.hbm, 97, rfl⟩
abbrev main_v68 : Ref sig .tc := ⟨.hbm, 98, rfl⟩
abbrev main_v69 : Ref sig .tc := ⟨.hbm, 99, rfl⟩
abbrev main_c_22 : Ref sig .tc := ⟨.hbm, 100, rfl⟩
abbrev main_v70 : Ref sig .tc := ⟨.hbm, 101, rfl⟩
abbrev main_v71 : Ref sig .tc := ⟨.hbm, 102, rfl⟩
abbrev main_c_23 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_24 : Ref sig .tc := ⟨.hbm, 154, rfl⟩
abbrev main_v122 : Ref sig .tc := ⟨.hbm, 155, rfl⟩
abbrev main_cst_25 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_26 : Ref sig .tc := ⟨.hbm, 164, rfl⟩
abbrev main_call7_v0 : Ref sig .tc := ⟨.hbm, 165, rfl⟩
abbrev main_call7_v1 : Ref sig .tc := ⟨.hbm, 166, rfl⟩
abbrev main_v130 : Ref sig .tc := ⟨.hbm, 167, rfl⟩
abbrev main_cst_27 : Ref sig .tc := ⟨.hbm, 168, rfl⟩
abbrev main_v131 : Ref sig .tc := ⟨.hbm, 169, rfl⟩
abbrev main_cst_28 : Ref sig .tc := ⟨.hbm, 170, rfl⟩
abbrev main_v132 : Ref sig .tc := ⟨.hbm, 171, rfl⟩
abbrev main_v133 : Ref sig .tc := ⟨.hbm, 172, rfl⟩
abbrev main_cst_29 : Ref sig .tc := ⟨.hbm, 173, rfl⟩
abbrev main_call8_v0 : Ref sig .tc := ⟨.hbm, 174, rfl⟩
abbrev main_call8_v1 : Ref sig .tc := ⟨.hbm, 175, rfl⟩
abbrev main_v134 : Ref sig .tc := ⟨.hbm, 176, rfl⟩
abbrev main_cst_30 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_31 : Ref sig .tc := ⟨.hbm, 183, rfl⟩
abbrev main_cst_32 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_call9_v3 : Ref sig .tc := ⟨.hbm, 188, rfl⟩
abbrev main_call9_v4 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150_0 : Ref sig .tc := ⟨.hbm, 200, rfl⟩
abbrev main_v150_1 : Ref sig .tc := ⟨.hbm, 201, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096x1024 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/- What the kernel body computes for one tile: 128 tokens of one head, lying transposed (the head dimension along the
   rows, the tokens along the lanes). The body is unrolled over four token chunks and eight heads; each of its 32 tiles
   is one instance of the functions below. -/
module

public import proofs.«01_k».proof.Proof.Gen.KernelIdeal.Skeleton
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Tile

open Idealize.ShloMosaic Idealize.SL.Sem Cert.KernelIdeal.Gen

variable {F : FTy → Type} [FloatOps F]

/-! ## Cosine and sine of the angles of one token chunk -/

/-- The cosine of (pair, token): `f` the frequencies, `p` the positions of the chunk in all four batches. -/
def cosT (i : grid0.Coords) (f : Vec F S64x128 .f32) (p : Vec F S4x128 .i32) : FVec F S64x128 .f32 :=
  k0_pay70 (k0_pay63 i f p) (k0_pay65 i f p) (k0_pay66 i f p)

/-- The sine of (pair, token). -/
def sinT (i : grid0.Coords) (f : Vec F S64x128 .f32) (p : Vec F S4x128 .i32) : FVec F S64x128 .f32 :=
  k0_pay71 (k0_pay63 i f p) (k0_pay65 i f p) (k0_pay66 i f p)

/-! ## The two halves of a tile -/

/-- The even entries of the head dimension. -/
def evenIn (g : Vec F S1x1x128x128 .bf16) : FVec F S64x128 .f32 := k0_pay75 (k0_pay73 g)

/-- The odd entries of the head dimension. -/
def oddIn (g : Vec F S1x1x128x128 .bf16) : FVec F S64x128 .f32 := k0_pay76 (k0_pay74 g)

/-- The even entries rotated back. -/
def evenOut (C S : FVec F S64x128 .f32) (g : Vec F S1x1x128x128 .bf16) : FVec F S64x128 .f32 :=
  addf (mulf (evenIn g) C) (mulf (oddIn g) S)

/-- The odd entries rotated back. -/
def oddOut (C S : FVec F S64x128 .f32) (g : Vec F S1x1x128x128 .bf16) : FVec F S64x128 .f32 :=
  subf (mulf (oddIn g) C) (mulf (evenIn g) S)

/-- The two halves interleaved again: row `2 k + p` is row `k` of the half of parity `p`. -/
def inter (e o : FVec F S64x128 .f32) : FVec F S1x128x128 .f32 := fun x =>
  if (x 1).val % 2 = 0 then e (ix2 ⟨(x 1).val / 2, by have : (x 1).val < 128 := (x 1).isLt; omega⟩ ⟨(x 2).val, (x 2).isLt⟩)
  else o (ix2 ⟨(x 1).val / 2, by have : (x 1).val < 128 := (x 1).isLt; omega⟩ ⟨(x 2).val, (x 2).isLt⟩)

/-! ## The group scale, the codes and the dequantised gradient -/

/-- The scaled maximum magnitude of each token's head vector. -/
def amax (e o : FVec F S64x128 .f32) : FVec F S1x128 .f32 :=
  mulf (shapeCast S1x128 (multiReduction .maximumf [0] S128 (maximumf (absf e) (absf o)) 0xFF800000#32 reduces_S64x128_S128 (.inl rfl) rfl)
    shapeCasts_S128_S1x128) (broadcast S1x128 (Scalar.ofBits .f32 0x37924925#32))

/-- The word of each token's scale. -/
def scaleWord (e o : FVec F S64x128 .f32) : IVec S1x128 32 := k0_pay178 (amax e o) k0_pay176 k0_pay177

/-- Each token's scale. -/
def scaleRow (e o : FVec F S64x128 .f32) : FVec F S1x128 .f32 := bitcastToFloat .f32 (scaleWord e o)

/-- The tile of the codes, from the two halves and from them interleaved. -/
def codeTile (e o : FVec F S64x128 .f32) (v : FVec F S1x128x128 .f32) : FVec F S1x128x128 .fp8e5m2 :=
  k0_pay183 (k0_pay182 (amax e o) k0_pay176 k0_pay177 v)

/-- The tile of the dequantised gradient, transposed. -/
def gTile (e o : FVec F S64x128 .f32) (v : FVec F S1x128x128 .f32) : FVec F S128x128 .bf16 := k0_pay181 (amax e o) k0_pay176 k0_pay177 v

/-! ## The tiles of one block -/

/-- The token chunk of a token of the block. -/
def chunkOf (n : Fin 512) : Fin 4 := ⟨n.val / 128, by omega⟩
/-- The head of a column. -/
def headOf (n : Fin 1024) : Fin 8 := ⟨n.val / 128, by omega⟩
/-- The place within a tile. -/
def lane {N : ℕ} (n : Fin N) : Fin 128 := ⟨n.val % 128, Nat.mod_lt _ (by decide)⟩

section Block

variable (i : grid0.Coords) (x0 : Vec F S1x6x512x128 .bf16) (x1 x2 : Vec F S1x1x512x128 .bf16) (x3 : Vec F S4x512 .i32)
  (x4 : Vec F S64x128 .f32)

theorem posInb (t : Fin 4) : ∀ a, (![0, 128 * t.val] : Fin 2 → ℕ) a + S4x128.size a ≤ S4x512.size a := by
  intro a; fin_cases a
  · show 0 + 4 ≤ 4; omega
  · show 128 * t.val + 128 ≤ 512; omega

theorem headInb (t : Fin 4) (h : Fin 6) :
    ∀ a, (![0, h.val, 128 * t.val, 0] : Fin 4 → ℕ) a + S1x1x128x128.size a ≤ S1x6x512x128.size a := by
  intro a; fin_cases a
  · show 0 + 1 ≤ 1; omega
  · show h.val + 1 ≤ 6; omega
  · show 128 * t.val + 128 ≤ 512; omega
  · show 0 + 128 ≤ 128; omega

theorem oneInb (t : Fin 4) :
    ∀ a, (![0, 0, 128 * t.val, 0] : Fin 4 → ℕ) a + S1x1x128x128.size a ≤ S1x1x512x128.size a := by
  intro a; fin_cases a
  · show 0 + 1 ≤ 1; omega
  · show 0 + 1 ≤ 1; omega
  · show 128 * t.val + 128 ≤ 512; omega
  · show 0 + 128 ≤ 128; omega

/-- The positions of token chunk `t`. -/
def posAt (t : Fin 4) : Vec F S4x128 .i32 := View.ld x3 (Rect.unit ![0, 128 * t.val] S4x128.size (posInb t))

/-- Head `h` of the incoming gradient at token chunk `t`: the six of `dq`, then `dk`, then `dv`. -/
def headAt (t : Fin 4) (h : Fin 8) : Vec F S1x1x128x128 .bf16 :=
  if hq : h.val < 6 then View.ld x0 (Rect.unit ![0, h.val, 128 * t.val, 0] S1x1x128x128.size (headInb t ⟨h.val, hq⟩))
  else if h.val = 6 then View.ld x1 (Rect.unit ![0, 0, 128 * t.val, 0] S1x1x128x128.size (oneInb t))
  else View.ld x2 (Rect.unit ![0, 0, 128 * t.val, 0] S1x1x128x128.size (oneInb t))

/-- The even half of the tile, rotated back unless it is of `dv`. -/
def evenAt (t : Fin 4) (h : Fin 8) : FVec F S64x128 .f32 :=
  if h.val = 7 then evenIn (headAt x0 x1 x2 t h)
  else evenOut (cosT i x4 (posAt x3 t)) (sinT i x4 (posAt x3 t)) (headAt x0 x1 x2 t h)

/-- The odd half of the tile, rotated back unless it is of `dv`. -/
def oddAt (t : Fin 4) (h : Fin 8) : FVec F S64x128 .f32 :=
  if h.val = 7 then oddIn (headAt x0 x1 x2 t h)
  else oddOut (cosT i x4 (posAt x3 t)) (sinT i x4 (posAt x3 t)) (headAt x0 x1 x2 t h)

/-- The block of codes: token `y 1`, column `y 2`. -/
def codes (y : S1x512x1024.Idx) : Elt F .fp8e5m2 :=
  codeTile (evenAt i x0 x1 x2 x3 x4 (chunkOf (y 1)) (headOf (y 2))) (oddAt i x0 x1 x2 x3 x4 (chunkOf (y 1)) (headOf (y 2)))
    (inter (evenAt i x0 x1 x2 x3 x4 (chunkOf (y 1)) (headOf (y 2))) (oddAt i x0 x1 x2 x3 x4 (chunkOf (y 1)) (headOf (y 2))))
    (ix3 0 (lane (y 1)) (lane (y 2)))

/-- The block of the dequantised gradient, transposed: column `y 0`, token `y 1`. -/
def grad (y : S1024x512.Idx) : Elt F .bf16 :=
  gTile (evenAt i x0 x1 x2 x3 x4 (chunkOf (y 1)) (headOf (y 0))) (oddAt i x0 x1 x2 x3 x4 (chunkOf (y 1)) (headOf (y 0)))
    (inter (evenAt i x0 x1 x2 x3 x4 (chunkOf (y 1)) (headOf (y 0))) (oddAt i x0 x1 x2 x3 x4 (chunkOf (y 1)) (headOf (y 0))))
    (ix2 (lane (y 0)) (lane (y 1)))

/-- The block of scales: head `y 1`, token `y 2`. -/
def scales (y : S1x8x512.Idx) : Elt F .f32 :=
  scaleRow (evenAt i x0 x1 x2 x3 x4 (chunkOf (y 2)) (y 1)) (oddAt i x0 x1 x2 x3 x4 (chunkOf (y 2)) (y 1)) (ix2 0 (lane (y 2)))

/-! ## A tile at its place -/

theorem codesInb (t : Fin 4) (h : Fin 8) : ∀ a, (![0, 128 * t.val, 128 * h.val] : Fin 3 → ℕ) a + S1x128x128.size a ≤ S1x512x1024.size a := by
  intro a; fin_cases a
  · show 0 + 1 ≤ 1; omega
  · show 128 * t.val + 128 ≤ 512; omega
  · show 128 * h.val + 128 ≤ 1024; omega

theorem gradInb (t : Fin 4) (h : Fin 8) : ∀ a, (![128 * h.val, 128 * t.val] : Fin 2 → ℕ) a + S128x128.size a ≤ S1024x512.size a := by
  intro a; fin_cases a
  · show 128 * h.val + 128 ≤ 1024; omega
  · show 128 * t.val + 128 ≤ 512; omega

/-- A store of the codes of tile (t, h) at its place. -/
theorem codes_piece (t : Fin 4) (h : Fin 8) {off : Fin 3 → ℕ} (ho : off = ![0, 128 * t.val, 128 * h.val])
    (inb : ∀ a, off a + S1x128x128.size a ≤ S1x512x1024.size a) (w : Vec F S1x128x128 .fp8e5m2) (v : FVec F S1x128x128 .f32)
    (hw : w = codeTile (evenAt i x0 x1 x2 x3 x4 t h) (oddAt i x0 x1 x2 x3 x4 t h) v) (hv : v = inter (evenAt i x0 x1 x2 x3 x4 t h) (oddAt i x0 x1 x2 x3 x4 t h))
    (x : (Rect.unit (s := S1x512x1024) off S1x128x128.size inb).shape.Idx) :
    w x = codes i x0 x1 x2 x3 x4 ((Rect.unit (s := S1x512x1024) off S1x128x128.size inb).emb x) := by
  subst ho hw hv
  have h1 : ((Rect.unit (s := S1x512x1024) ![0, 128 * t.val, 128 * h.val] S1x128x128.size inb).emb x 1).val = 128 * t.val + 1 * (x 1).val := rfl
  have h2 : ((Rect.unit (s := S1x512x1024) ![0, 128 * t.val, 128 * h.val] S1x128x128.size inb).emb x 2).val = 128 * h.val + 1 * (x 2).val := rfl
  have l0 : (x 0).val < 1 := (x 0).isLt
  have l1 : (x 1).val < 128 := (x 1).isLt
  have l2 : (x 2).val < 128 := (x 2).isLt
  unfold codes
  have et : chunkOf ((Rect.unit (s := S1x512x1024) ![0, 128 * t.val, 128 * h.val] S1x128x128.size inb).emb x 1) = t :=
    Fin.ext (by show _ / 128 = _; rw [h1]; omega)
  have eh : headOf ((Rect.unit (s := S1x512x1024) ![0, 128 * t.val, 128 * h.val] S1x128x128.size inb).emb x 2) = h :=
    Fin.ext (by show _ / 128 = _; rw [h2]; omega)
  rw [et, eh]
  congr 1
  funext a
  fin_cases a
  · exact Fin.ext (by show (x 0).val = 0; omega)
  · exact Fin.ext (by show (x 1).val = _ % 128; rw [h1]; omega)
  · exact Fin.ext (by show (x 2).val = _ % 128; rw [h2]; omega)

/-- A store of the dequantised gradient of tile (t, h) at its place. -/
theorem grad_piece (t : Fin 4) (h : Fin 8) {off : Fin 2 → ℕ} (ho : off = ![128 * h.val, 128 * t.val])
    (inb : ∀ a, off a + S128x128.size a ≤ S1024x512.size a) (w : Vec F S128x128 .bf16) (v : FVec F S1x128x128 .f32)
    (hw : w = gTile (evenAt i x0 x1 x2 x3 x4 t h) (oddAt i x0 x1 x2 x3 x4 t h) v) (hv : v = inter (evenAt i x0 x1 x2 x3 x4 t h) (oddAt i x0 x1 x2 x3 x4 t h))
    (x : (Rect.unit (s := S1024x512) off S128x128.size inb).shape.Idx) :
    w x = grad i x0 x1 x2 x3 x4 ((Rect.unit (s := S1024x512) off S128x128.size inb).emb x) := by
  subst ho hw hv
  have h1 : ((Rect.unit (s := S1024x512) ![128 * h.val, 128 * t.val] S128x128.size inb).emb x 0).val = 128 * h.val + 1 * (x 0).val := rfl
  have h2 : ((Rect.unit (s := S1024x512) ![128 * h.val, 128 * t.val] S128x128.size inb).emb x 1).val = 128 * t.val + 1 * (x 1).val := rfl
  have l1 : (x 0).val < 128 := (x 0).isLt
  have l2 : (x 1).val < 128 := (x 1).isLt
  unfold grad
  have et : chunkOf ((Rect.unit (s := S1024x512) ![128 * h.val, 128 * t.val] S128x128.size inb).emb x 1) = t :=
    Fin.ext (by show _ / 128 = _; rw [h2]; omega)
  have eh : headOf ((Rect.unit (s := S1024x512) ![128 * h.val, 128 * t.val] S128x128.size inb).emb x 0) = h :=
    Fin.ext (by show _ / 128 = _; rw [h1]; omega)
  rw [et, eh]
  congr 1
  funext a
  fin_cases a
  · exact Fin.ext (by show (x 0).val = _ % 128; rw [h1]; omega)
  · exact Fin.ext (by show (x 1).val = _ % 128; rw [h2]; omega)

theorem scalesInb (t : Fin 4) : ∀ a, (![0, 0, 128 * t.val] : Fin 3 → ℕ) a + S1x8x128.size a ≤ S1x8x512.size a := by
  intro a; fin_cases a
  · show 0 + 1 ≤ 1; omega
  · show 0 + 8 ≤ 8; omega
  · show 128 * t.val + 128 ≤ 512; omega

/-- Eight rows stacked: row `h` of the tile is the `h`-th. -/
theorem rows_apply (r : Fin 8 → FVec F S1x128 .f32) (x : S1x8x128.Idx) :
    k0_pay184 (r 0) (r 1) (r 2) (r 3) (r 4) (r 5) (r 6) (r 7) x = r (x 1) (ix2 0 (lane (x 2))) := by
  obtain ⟨a, h, l, rfl⟩ : ∃ (a : Fin 1) (h : Fin 8) (l : Fin 128), x = ix3 a h l := ⟨x 0, x 1, x 2, (ix3_eta x).symm⟩
  have hl : lane l = l := Fin.ext (Nat.mod_eq_of_lt l.isLt)
  unfold k0_pay184
  fin_cases h <;> pointwise <;> rw [hl] <;> rfl

/-- A store of the scales of token chunk `t` at its place. -/
theorem scales_piece (t : Fin 4) {off : Fin 3 → ℕ} (ho : off = ![0, 0, 128 * t.val])
    (inb : ∀ a, off a + S1x8x128.size a ≤ S1x8x512.size a) (w : Vec F S1x8x128 .f32)
    (hw : w = k0_pay184 (scaleRow (evenAt i x0 x1 x2 x3 x4 t 0) (oddAt i x0 x1 x2 x3 x4 t 0)) (scaleRow (evenAt i x0 x1 x2 x3 x4 t 1) (oddAt i x0 x1 x2 x3 x4 t 1))
      (scaleRow (evenAt i x0 x1 x2 x3 x4 t 2) (oddAt i x0 x1 x2 x3 x4 t 2)) (scaleRow (evenAt i x0 x1 x2 x3 x4 t 3) (oddAt i x0 x1 x2 x3 x4 t 3))
      (scaleRow (evenAt i x0 x1 x2 x3 x4 t 4) (oddAt i x0 x1 x2 x3 x4 t 4)) (scaleRow (evenAt i x0 x1 x2 x3 x4 t 5) (oddAt i x0 x1 x2 x3 x4 t 5))
      (scaleRow (evenAt i x0 x1 x2 x3 x4 t 6) (oddAt i x0 x1 x2 x3 x4 t 6)) (scaleRow (evenAt i x0 x1 x2 x3 x4 t 7) (oddAt i x0 x1 x2 x3 x4 t 7)))
    (x : (Rect.unit (s := S1x8x512) off S1x8x128.size inb).shape.Idx) :
    w x = scales i x0 x1 x2 x3 x4 ((Rect.unit (s := S1x8x512) off S1x8x128.size inb).emb x) := by
  subst ho hw
  have h1 : ((Rect.unit (s := S1x8x512) ![0, 0, 128 * t.val] S1x8x128.size inb).emb x 1).val = 0 + 1 * (x 1).val := rfl
  have h2 : ((Rect.unit (s := S1x8x512) ![0, 0, 128 * t.val] S1x8x128.size inb).emb x 2).val = 128 * t.val + 1 * (x 2).val := rfl
  have l2 : (x 2).val < 128 := (x 2).isLt
  unfold scales
  have et : chunkOf ((Rect.unit (s := S1x8x512) ![0, 0, 128 * t.val] S1x8x128.size inb).emb x 2) = t :=
    Fin.ext (by show _ / 128 = _; rw [h2]; omega)
  have eh : (Rect.unit (s := S1x8x512) ![0, 0, 128 * t.val] S1x8x128.size inb).emb x 1 = x 1 := Fin.ext (by rw [h1]; omega)
  have el : lane ((Rect.unit (s := S1x8x512) ![0, 0, 128 * t.val] S1x8x128.size inb).emb x 2) = lane (x 2) :=
    Fin.ext (by show _ % 128 = _ % 128; rw [h2]; omega)
  rw [et, eh, el]
  exact rows_apply (fun h => scaleRow (evenAt i x0 x1 x2 x3 x4 t h) (oddAt i x0 x1 x2 x3 x4 t h)) x

end Block

/-! ## The weights -/

section Weight

variable (x5 : Vec F S768x1024 .fp8e4m3) (x6 : Vec F S6x8 .f32)

/-- The row of blocks of a row of the weights. -/
def wRow (n : Fin 768) : Fin 6 := ⟨n.val / 128, by omega⟩

theorem weightInb (a : Fin 6) (b : Fin 8) : ∀ d, (![128 * a.val, 128 * b.val] : Fin 2 → ℕ) d + S128x128.size d ≤ S768x1024.size d := by
  intro d; fin_cases d
  · show 128 * a.val + 128 ≤ 768; omega
  · show 128 * b.val + 128 ≤ 1024; omega

/-- The codes of block (a, b). -/
def wBlock (a : Fin 6) (b : Fin 8) : Vec F S128x128 .fp8e4m3 := View.ld x5 (Rect.unit ![128 * a.val, 128 * b.val] S128x128.size (weightInb a b))

/-- The dequantised weights: every code times the scale of its block. -/
def weight (y : S768x1024.Idx) : Elt F .bf16 :=
  k0_pay3 (x6 (ix2 (wRow (y 0)) (headOf (y 1)))) (wBlock x5 (wRow (y 0)) (headOf (y 1)))
    (ix2 (lane (y 0)) (lane (y 1)))

/-- One block's scale, loaded. -/
theorem scalar_ld (a : Fin 6) (b : Fin 8) {off : Fin 2 → ℕ} (ho : off = ![a.val, b.val]) (inb) (hn) :
    View.ld x6 (Rect.unit (s := S6x8) off ![1, 1] inb) (Shape.Idx.first hn) = x6 (ix2 a b) := by
  subst ho
  refine congrArg x6 (funext fun d => ?_)
  fin_cases d
  · exact Fin.ext rfl
  · exact Fin.ext rfl

/-- A store of block (a, b) of the dequantised weights at its place. -/
theorem weight_piece (a : Fin 6) (b : Fin 8) {off : Fin 2 → ℕ} (ho : off = ![128 * a.val, 128 * b.val])
    (inb : ∀ d, off d + S128x128.size d ≤ S768x1024.size d) (w : Vec F S128x128 .bf16) (s : Elt F .f32)
    (hw : w = k0_pay3 s (View.ld x5 (Rect.unit (s := S768x1024) off S128x128.size inb))) (hs : s = x6 (ix2 a b))
    (x : (Rect.unit (s := S768x1024) off S128x128.size inb).shape.Idx) :
    w x = weight x5 x6 ((Rect.unit (s := S768x1024) off S128x128.size inb).emb x) := by
  subst ho hw hs
  have h1 : ((Rect.unit (s := S768x1024) ![128 * a.val, 128 * b.val] S128x128.size inb).emb x 0).val = 128 * a.val + 1 * (x 0).val := rfl
  have h2 : ((Rect.unit (s := S768x1024) ![128 * a.val, 128 * b.val] S128x128.size inb).emb x 1).val = 128 * b.val + 1 * (x 1).val := rfl
  have l1 : (x 0).val < 128 := (x 0).isLt
  have l2 : (x 1).val < 128 := (x 1).isLt
  unfold weight
  have ea : wRow ((Rect.unit (s := S768x1024) ![128 * a.val, 128 * b.val] S128x128.size inb).emb x 0) = a :=
    Fin.ext (by show _ / 128 = _; rw [h1]; omega)
  have eb : headOf ((Rect.unit (s := S768x1024) ![128 * a.val, 128 * b.val] S128x128.size inb).emb x 1) = b :=
    Fin.ext (by show _ / 128 = _; rw [h2]; omega)
  rw [ea, eb]
  refine congrArg (k0_pay3 (x6 (ix2 a b)) (wBlock x5 a b)) ?_
  funext d
  fin_cases d
  · exact Fin.ext (by show (x 0).val = _ % 128; rw [h1]; omega)
  · exact Fin.ext (by show (x 1).val = _ % 128; rw [h2]; omega)

end Weight

/-! ## Pieces that tile a block, loaded or read whole -/

/-- A load of the whole of a buffer whose stores are the blocks of `G` and cover it. -/
theorem readCov_of_pieces {sig' : RefSig} {κ : Kind} {sp : Space} {s : Shape} {el : EltTy} (v : View sig' κ sp s el) (G : s.Idx → Elt F el)
    (L : List (View.Piece (Elt F) s el)) (h : View.PiecesOf G L) (hc : ∀ y, ∃ p ∈ L, y ∈ p.1.set) {off : Fin s.rank → ℕ} (ho : ∀ a, off a = 0)
    (inb : ∀ a, off a + s.size a ≤ s.size a) : v.readCov (Val := Elt F) L (Rect.unit off s.size inb).toLoadRect = G := by
  rw [View.readCov_eq_canon']
  obtain rfl : off = fun _ => 0 := funext ho
  funext y
  show View.canon L ((Rect.whole s).emb y) = _
  rw [Rect.emb_whole_apply]
  exact View.canon_apply_of_pieces G L h.mem y (hc y)

/-! ## The two halves stored into alternate rows and loaded back whole -/

/-- Rows `p, p + 2, …` of plane `h` of the staging scratch. -/
theorem readBack {sig' : RefSig} {κ : Kind} {sp : Space} (v : View sig' κ sp S8x128x128 .f32) (h : Fin 8)
    {offE offO off : Fin 3 → ℕ} (hE : offE = ![h.val, 0, 0]) (hO : offO = ![h.val, 1, 0]) (hoff : off = ![h.val, 0, 0])
    (iE pE iO pO inb) (e o : FVec F S64x128 .f32) (L : List (View.Piece (Elt F) S8x128x128 .f32)) :
    v.readCov (Val := Elt F)
      (⟨{ off := offO, size := S1x64x128.size, stride := ![1, 2, 1], inb := iO, stride_pos := pO }, shapeCast S1x64x128 o shapeCasts_S64x128_S1x64x128⟩
        :: ⟨{ off := offE, size := S1x64x128.size, stride := ![1, 2, 1], inb := iE, stride_pos := pE }, shapeCast S1x64x128 e shapeCasts_S64x128_S1x64x128⟩ :: L)
      (Rect.unit (s := S8x128x128) off S1x128x128.size inb).toLoadRect = inter e o := by
  subst hE hO hoff
  rw [View.readCov_eq_canon']
  funext x
  have l0 : (x 0).val < 1 := (x 0).isLt
  have l1 : (x 1).val < 128 := (x 1).isLt
  have l2 : (x 2).val < 128 := (x 2).isLt
  have hx0 : ((Rect.unit (s := S8x128x128) ![h.val, 0, 0] S1x128x128.size inb).idx x 0).val = h.val + 1 * (x 0).val := rfl
  have hx1 : ((Rect.unit (s := S8x128x128) ![h.val, 0, 0] S1x128x128.size inb).idx x 1).val = 0 + 1 * (x 1).val := rfl
  have hx2 : ((Rect.unit (s := S8x128x128) ![h.val, 0, 0] S1x128x128.size inb).idx x 2).val = 0 + 1 * (x 2).val := rfl
  show View.canon _ ((Rect.unit (s := S8x128x128) ![h.val, 0, 0] S1x128x128.size inb).idx x) = _
  by_cases hp : (x 1).val % 2 = 0
  · rw [View.canon_cons_of_not_mem]
    · have e1 : (Rect.unit (s := S8x128x128) ![h.val, 0, 0] S1x128x128.size inb).idx x
          = (Rect.mk (s := S8x128x128) { off := ![h.val, 0, 0], size := S1x64x128.size, stride := ![1, 2, 1], inb := iE } pE).emb
              (ix3 0 ⟨(x 1).val / 2, by omega⟩ ⟨(x 2).val, l2⟩) := by
        funext a; fin_cases a
        · exact Fin.ext (hx0.trans (by show _ = h.val + 1 * 0; omega))
        · exact Fin.ext (hx1.trans (by show _ = 0 + 2 * ((x 1).val / 2); omega))
        · exact Fin.ext hx2
      rw [e1, View.canon_cons_emb]
      simp only [inter, hp, if_true]
      pointwise
    · intro hm
      rw [LoadRect.mem_set] at hm
      obtain ⟨k, hk, hk'⟩ := hm 1
      have : ((Rect.unit (s := S8x128x128) ![h.val, 0, 0] S1x128x128.size inb).idx x 1).val = 1 + 2 * k := hk'
      rw [hx1] at this; omega
  · have e1 : (Rect.unit (s := S8x128x128) ![h.val, 0, 0] S1x128x128.size inb).idx x
        = (Rect.mk (s := S8x128x128) { off := ![h.val, 1, 0], size := S1x64x128.size, stride := ![1, 2, 1], inb := iO } pO).emb
            (ix3 0 ⟨(x 1).val / 2, by omega⟩ ⟨(x 2).val, l2⟩) := by
      funext a; fin_cases a
      · exact Fin.ext (hx0.trans (by show _ = h.val + 1 * 0; omega))
      · exact Fin.ext (hx1.trans (by show _ = 1 + 2 * ((x 1).val / 2); omega))
      · exact Fin.ext hx2
    rw [e1, View.canon_cons_emb]
    simp only [inter, hp, if_false]
    pointwise

/-- The load of plane `off 0` after the two stores of its halves, whatever was stored before. -/
theorem readBack_of {sig' : RefSig} {κ : Kind} {sp : Space} (v : View sig' κ sp S8x128x128 .f32) (e o : FVec F S64x128 .f32)
    {offE offO off : Fin 3 → ℕ} (iE pE iO pO inb) (wE wO : Vec F S1x64x128 .f32) (L : List (View.Piece (Elt F) S8x128x128 .f32))
    (hE : offE = ![off 0, 0, 0]) (hO : offO = ![off 0, 1, 0]) (hoff : off = ![off 0, 0, 0])
    (hwE : wE = shapeCast S1x64x128 e shapeCasts_S64x128_S1x64x128) (hwO : wO = shapeCast S1x64x128 o shapeCasts_S64x128_S1x64x128) :
    v.readCov (Val := Elt F)
      (⟨{ off := offO, size := S1x64x128.size, stride := ![1, 2, 1], inb := iO, stride_pos := pO }, wO⟩
        :: ⟨{ off := offE, size := S1x64x128.size, stride := ![1, 2, 1], inb := iE, stride_pos := pE }, wE⟩ :: L)
      (Rect.unit (s := S8x128x128) off S1x128x128.size inb).toLoadRect = inter e o := by
  subst hwE hwO
  have h8 : off 0 + 1 ≤ 8 := inb 0
  exact readBack v ⟨off 0, h8⟩ hE hO hoff iE pE iO pO inb e o L

end Cert.KernelIdeal.Tile

end
-- ==== Proof.RunA.lean ====
/- What the body leaves at the first point of the grid of the grid: its stores are the tiles of Tile.lean at their places, so each
   output block is one function of the point's input blocks. -/
module

public import proofs.«01_k».proof.Proof.Tile
public import proofs.«01_k».proof.Proof.Gen.KernelIdeal.Frame

@[expose] public section

set_option maxRecDepth 16384

noncomputable section

namespace Cert.KernelIdeal.Tile

open Idealize.ShloMosaic Idealize.SL.Sem Cert.KernelIdeal.Gen Idealize.ShloMosaic.TcCoe Idealize.ShloMosaic.Tactic

variable {F : FTy → Type} [FloatOps F]

variable (c : Dev nD) (i : grid0.Coords) (arg2 : Memref sig .tc .vmem S1x6x512x128 .bf16) (harg2 : arg2.IsWhole) (arg3 : Memref sig .tc .vmem S1x1x512x128 .bf16) (harg3 : arg3.IsWhole) (arg4 : Memref sig .tc .vmem S1x1x512x128 .bf16) (harg4 : arg4.IsWhole) (arg5 : Memref sig .tc .vmem S4x512 .i32) (harg5 : arg5.IsWhole) (arg6 : Memref sig .tc .vmem S64x128 .f32) (harg6 : arg6.IsWhole) (arg7 : Memref sig .tc .vmem S768x1024 .fp8e4m3) (harg7 : arg7.IsWhole) (arg8 : Memref sig .tc .smem S6x8 .f32) (harg8 : arg8.IsWhole) (arg9 : Memref sig .tc .vmem S1x512x768 .bf16) (harg9 : arg9.IsWhole) (arg10 : Memref sig .tc .vmem S1x512x1024 .fp8e5m2) (harg10 : arg10.IsWhole) (arg11 : Memref sig .tc .vmem S1x8x512 .f32) (harg11 : arg11.IsWhole) (arg12 : Memref sig .tc .vmem S768x1024 .bf16) (harg12 : arg12.IsWhole) (arg13 : Memref sig .tc .vmem S1024x512 .bf16) (harg13 : arg13.IsWhole) (arg14 : Memref sig .tc .vmem S8x128x128 .f32) (harg14 : arg14.IsWhole) (hc0 : cond0_0 i)
    (x0 : Vec F S1x6x512x128 .bf16) (x1 : Vec F S1x1x512x128 .bf16) (x2 : Vec F S1x1x512x128 .bf16) (x3 : Vec F S4x512 .i32) (x4 : Vec F S64x128 .f32) (x5 : Vec F S768x1024 .fp8e4m3) (x6 : Vec F S6x8 .f32)

/-- The stores into the block of codes. -/
theorem codes_pieces_A : View.PiecesOf (codes i x0 x1 x2 x3 x4) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1 := by
  frame_out
  exact ⟨codes_piece i x0 x1 x2 x3 x4 3 7 rfl (codesInb 3 7) _ _ rfl (readBack_of _ _ _ _ _ _ _ _ _ _ _ rfl rfl rfl rfl rfl),
    codes_piece i x0 x1 x2 x3 x4 3 6 rfl (codesInb 3 6) _ _ rfl (readBack_of _ _ _ _ _ _ _ _ _ _ _ rfl rfl rfl rfl rfl),
    codes_piece i x0 x1 x2 x3 x4 3 5 rfl (codesInb 3 5) _ _ rfl (readBack_of _ _ _ _ _ _ _ _ _ _ _ rfl rfl rfl rfl rfl),
    codes_piece i x0 x1 x2 x3 x4 3 4 rfl (codesInb 3 4) _ _ rfl (readBack_of _ _ _ _ _ _ _ _ _ _ _ rfl rfl rfl rfl rfl),
    codes_piece i x0 x1 x2 x3 x4 3 3 rfl (codesInb 3 3) _ _ rfl (readBack_of _ _ _ _ _ _ _ _ _ _ _ rfl rfl rfl rfl rfl),
    codes_piece i x0 x1 x2 x3 x4 3 2 rfl (codesInb 3 2) _ _ rfl (readBack_of _ _ _ _ _ _ _ _ _ _ _ rfl rfl rfl rfl rfl),
    codes_piece i x0 x1 x2 x3 x4 3 1 rfl (codesInb 3 1) _ _ rfl (readBack_of _ _ _ _ _ _ _ _ _ _ _ rfl rfl rfl rfl rfl),
    codes_piece i x0 x1 x2 x3 x4 3 0 rfl (codesInb 3 0) _ _ rfl (readBack_of _ _ _ _ _ _ _ _ _ _ _ rfl rfl rfl rfl rfl),
    codes_piece i x0 x1 x2 x3 x4 2 7 rfl (codesInb 2 7) _ _ rfl (readBack_of _ _ _ _ _ _ _ _ _ _ _ rfl rfl rfl rfl rfl),
    codes_piece i x0 x1 x2 x3 x4 2 6 rfl (codesInb 2 6) _ _ rfl (readBack_of _ _ _ _ _ _ _ _ _ _ _ rfl rfl rfl rfl rfl),
    codes_piece i x0 x1 x2 x3 x4 2 5 rfl (codesInb 2 5) _ _ rfl (readBack_of _ _ _ _ _ _ _ _ _ _ _ rfl rfl rfl rfl rfl),
    codes_piece i x0 x1 x2 x3 x4 2 4 rfl (codesInb 2 4) _ _ rfl (readBack_of _ _ _ _ _ _ _ _ _ _ _ rfl rfl rfl rfl rfl),
    codes_piece i x0 x1 x2 x3 x4 2 3 rfl (codesInb 2 3) _ _ rfl (readBack_of _ _ _ _ _ _ _ _ _ _ _ rfl rfl rfl rfl rfl),
    codes_piece i x0 x1 x2 x3 x4 2 2 rfl (codesInb 2 2) _ _ rfl (readBack_of _ _ _ _ _ _ _ _ _ _ _ rfl rfl rfl rfl rfl),
    codes_piece i x0 x1 x2 x3 x4 2 1 rfl (codesInb 2 1) _ _ rfl (readBack_of _ _ _ _ _ _ _ _ _ _ _ rfl rfl rfl rfl rfl),
    codes_piece i x0 x1 x2 x3 x4 2 0 rfl (codesInb 2 0) _ _ rfl (readBack_of _ _ _ _ _ _ _ _ _ _ _ rfl rfl rfl rfl rfl),
    codes_piece i x0 x1 x2 x3 x4 1 7 rfl (codesInb 1 7) _ _ rfl (readBack_of _ _ _ _ _ _ _ _ _ _ _ rfl rfl rfl rfl rfl),
    codes_piece i x0 x1 x2 x3 x4 1 6 rfl (codesInb 1 6) _ _ rfl (readBack_of _ _ _ _ _ _ _ _ _ _ _ rfl rfl rfl rfl rfl),
    codes_piece i x0 x1 x2 x3 x4 1 5 rfl (codesInb 1 5) _ _ rfl (readBack_of _ _ _ _ _ _ _ _ _ _ _ rfl rfl rfl rfl rfl),
    codes_piece i x0 x1 x2 x3 x4 1 4 rfl (codesInb 1 4) _ _ rfl (readBack_of _ _ _ _ _ _ _ _ _ _ _ rfl rfl rfl rfl rfl),
    codes_piece i x0 x1 x2 x3 x4 1 3 rfl (codesInb 1 3) _ _ rfl (readBack_of _ _ _ _ _ _ _ _ _ _ _ rfl rfl rfl rfl rfl),
    codes_piece i x0 x1 x2 x3 x4 1 2 rfl (codesInb 1 2) _ _ rfl (readBack_of _ _ _ _ _ _ _ _ _ _ _ rfl rfl rfl rfl rfl),
    codes_piece i x0 x1 x2 x3 x4 1 1 rfl (codesInb 1 1) _ _ rfl (readBack_of _ _ _ _ _ _ _ _ _ _ _ rfl rfl rfl rfl rfl),
    codes_piece i x0 x1 x2 x3 x4 1 0 rfl (codesInb 1 0) _ _ rfl (readBack_of _ _ _ _ _ _ _ _ _ _ _ rfl rfl rfl rfl rfl),
    codes_piece i x0 x1 x2 x3 x4 0 7 rfl (codesInb 0 7) _ _ rfl (readBack_of _ _ _ _ _ _ _ _ _ _ _ rfl rfl rfl rfl rfl),
    codes_piece i x0 x1 x2 x3 x4 0 6 rfl (codesInb 0 6) _ _ rfl (readBack_of _ _ _ _ _ _ _ _ _ _ _ rfl rfl rfl rfl rfl),
    codes_piece i x0 x1 x2 x3 x4 0 5 rfl (codesInb 0 5) _ _ rfl (readBack_of _ _ _ _ _ _ _ _ _ _ _ rfl rfl rfl rfl rfl),
    codes_piece i x0 x1 x2 x3 x4 0 4 rfl (codesInb 0 4) _ _ rfl (readBack_of _ _ _ _ _ _ _ _ _ _ _ rfl rfl rfl rfl rfl),
    codes_piece i x0 x1 x2 x3 x4 0 3 rfl (codesInb 0 3) _ _ rfl (readBack_of _ _ _ _ _ _ _ _ _ _ _ rfl rfl rfl rfl rfl),
    codes_piece i x0 x1 x2 x3 x4 0 2 rfl (codesInb 0 2) _ _ rfl (readBack_of _ _ _ _ _ _ _ _ _ _ _ rfl rfl rfl rfl rfl),
    codes_piece i x0 x1 x2 x3 x4 0 1 rfl (codesInb 0 1) _ _ rfl (readBack_of _ _ _ _ _ _ _ _ _ _ _ rfl rfl rfl rfl rfl),
    codes_piece i x0 x1 x2 x3 x4 0 0 rfl (codesInb 0 0) _ _ rfl (readBack_of _ _ _ _ _ _ _ _ _ _ _ rfl rfl rfl rfl rfl), trivial⟩

/-- The stores into the block of scales. -/
theorem scales_pieces_A : View.PiecesOf (scales i x0 x1 x2 x3 x4) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1 := by
  frame_out
  exact ⟨scales_piece i x0 x1 x2 x3 x4 3 rfl (scalesInb 3) _ rfl,
    scales_piece i x0 x1 x2 x3 x4 2 rfl (scalesInb 2) _ rfl,
    scales_piece i x0 x1 x2 x3 x4 1 rfl (scalesInb 1) _ rfl,
    scales_piece i x0 x1 x2 x3 x4 0 rfl (scalesInb 0) _ rfl, trivial⟩

/-- The stores of the dequantised gradient into the scratch the product reads. -/
theorem grad_pieces_A : View.PiecesOf (grad i x0 x1 x2 x3 x4) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1 := by
  frame_out
  exact ⟨grad_piece i x0 x1 x2 x3 x4 3 7 rfl (gradInb 3 7) _ _ rfl (readBack_of _ _ _ _ _ _ _ _ _ _ _ rfl rfl rfl rfl rfl),
    grad_piece i x0 x1 x2 x3 x4 3 6 rfl (gradInb 3 6) _ _ rfl (readBack_of _ _ _ _ _ _ _ _ _ _ _ rfl rfl rfl rfl rfl),
    grad_piece i x0 x1 x2 x3 x4 3 5 rfl (gradInb 3 5) _ _ rfl (readBack_of _ _ _ _ _ _ _ _ _ _ _ rfl rfl rfl rfl rfl),
    grad_piece i x0 x1 x2 x3 x4 3 4 rfl (gradInb 3 4) _ _ rfl (readBack_of _ _ _ _ _ _ _ _ _ _ _ rfl rfl rfl rfl rfl),
    grad_piece i x0 x1 x2 x3 x4 3 3 rfl (gradInb 3 3) _ _ rfl (readBack_of _ _ _ _ _ _ _ _ _ _ _ rfl rfl rfl rfl rfl),
    grad_piece i x0 x1 x2 x3 x4 3 2 rfl (gradInb 3 2) _ _ rfl (readBack_of _ _ _ _ _ _ _ _ _ _ _ rfl rfl rfl rfl rfl),
    grad_piece i x0 x1 x2 x3 x4 3 1 rfl (gradInb 3 1) _ _ rfl (readBack_of _ _ _ _ _ _ _ _ _ _ _ rfl rfl rfl rfl rfl),
    grad_piece i x0 x1 x2 x3 x4 3 0 rfl (gradInb 3 0) _ _ rfl (readBack_of _ _ _ _ _ _ _ _ _ _ _ rfl rfl rfl rfl rfl),
    grad_piece i x0 x1 x2 x3 x4 2 7 rfl (gradInb 2 7) _ _ rfl (readBack_of _ _ _ _ _ _ _ _ _ _ _ rfl rfl rfl rfl rfl),
    grad_piece i x0 x1 x2 x3 x4 2 6 rfl (gradInb 2 6) _ _ rfl (readBack_of _ _ _ _ _ _ _ _ _ _ _ rfl rfl rfl rfl rfl),
    grad_piece i x0 x1 x2 x3 x4 2 5 rfl (gradInb 2 5) _ _ rfl (readBack_of _ _ _ _ _ _ _ _ _ _ _ rfl rfl rfl rfl rfl),
    grad_piece i x0 x1 x2 x3 x4 2 4 rfl (gradInb 2 4) _ _ rfl (readBack_of _ _ _ _ _ _ _ _ _ _ _ rfl rfl rfl rfl rfl),
    grad_piece i x0 x1 x2 x3 x4 2 3 rfl (gradInb 2 3) _ _ rfl (readBack_of _ _ _ _ _ _ _ _ _ _ _ rfl rfl rfl rfl rfl),
    grad_piece i x0 x1 x2 x3 x4 2 2 rfl (gradInb 2 2) _ _ rfl (readBack_of _ _ _ _ _ _ _ _ _ _ _ rfl rfl rfl rfl rfl),
    grad_piece i x0 x1 x2 x3 x4 2 1 rfl (gradInb 2 1) _ _ rfl (readBack_of _ _ _ _ _ _ _ _ _ _ _ rfl rfl rfl rfl rfl),
    grad_piece i x0 x1 x2 x3 x4 2 0 rfl (gradInb 2 0) _ _ rfl (readBack_of _ _ _ _ _ _ _ _ _ _ _ rfl rfl rfl rfl rfl),
    grad_piece i x0 x1 x2 x3 x4 1 7 rfl (gradInb 1 7) _ _ rfl (readBack_of _ _ _ _ _ _ _ _ _ _ _ rfl rfl rfl rfl rfl),
    grad_piece i x0 x1 x2 x3 x4 1 6 rfl (gradInb 1 6) _ _ rfl (readBack_of _ _ _ _ _ _ _ _ _ _ _ rfl rfl rfl rfl rfl),
    grad_piece i x0 x1 x2 x3 x4 1 5 rfl (gradInb 1 5) _ _ rfl (readBack_of _ _ _ _ _ _ _ _ _ _ _ rfl rfl rfl rfl rfl),
    grad_piece i x0 x1 x2 x3 x4 1 4 rfl (gradInb 1 4) _ _ rfl (readBack_of _ _ _ _ _ _ _ _ _ _ _ rfl rfl rfl rfl rfl),
    grad_piece i x0 x1 x2 x3 x4 1 3 rfl (gradInb 1 3) _ _ rfl (readBack_of _ _ _ _ _ _ _ _ _ _ _ rfl rfl rfl rfl rfl),
    grad_piece i x0 x1 x2 x3 x4 1 2 rfl (gradInb 1 2) _ _ rfl (readBack_of _ _ _ _ _ _ _ _ _ _ _ rfl rfl rfl rfl rfl),
    grad_piece i x0 x1 x2 x3 x4 1 1 rfl (gradInb 1 1) _ _ rfl (readBack_of _ _ _ _ _ _ _ _ _ _ _ rfl rfl rfl rfl rfl),
    grad_piece i x0 x1 x2 x3 x4 1 0 rfl (gradInb 1 0) _ _ rfl (readBack_of _ _ _ _ _ _ _ _ _ _ _ rfl rfl rfl rfl rfl),
    grad_piece i x0 x1 x2 x3 x4 0 7 rfl (gradInb 0 7) _ _ rfl (readBack_of _ _ _ _ _ _ _ _ _ _ _ rfl rfl rfl rfl rfl),
    grad_piece i x0 x1 x2 x3 x4 0 6 rfl (gradInb 0 6) _ _ rfl (readBack_of _ _ _ _ _ _ _ _ _ _ _ rfl rfl rfl rfl rfl),
    grad_piece i x0 x1 x2 x3 x4 0 5 rfl (gradInb 0 5) _ _ rfl (readBack_of _ _ _ _ _ _ _ _ _ _ _ rfl rfl rfl rfl rfl),
    grad_piece i x0 x1 x2 x3 x4 0 4 rfl (gradInb 0 4) _ _ rfl (readBack_of _ _ _ _ _ _ _ _ _ _ _ rfl rfl rfl rfl rfl),
    grad_piece i x0 x1 x2 x3 x4 0 3 rfl (gradInb 0 3) _ _ rfl (readBack_of _ _ _ _ _ _ _ _ _ _ _ rfl rfl rfl rfl rfl),
    grad_piece i x0 x1 x2 x3 x4 0 2 rfl (gradInb 0 2) _ _ rfl (readBack_of _ _ _ _ _ _ _ _ _ _ _ rfl rfl rfl rfl rfl),
    grad_piece i x0 x1 x2 x3 x4 0 1 rfl (gradInb 0 1) _ _ rfl (readBack_of _ _ _ _ _ _ _ _ _ _ _ rfl rfl rfl rfl rfl),
    grad_piece i x0 x1 x2 x3 x4 0 0 rfl (gradInb 0 0) _ _ rfl (readBack_of _ _ _ _ _ _ _ _ _ _ _ rfl rfl rfl rfl rfl), trivial⟩

/-- They cover it. -/
theorem grad_cover_A (y : S1024x512.Idx) : ∃ p ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1, y ∈ p.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1 S128x128.size (by sl_kernel_rfl) y

theorem out_codes_A : out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = codes i x0 x1 x2 x3 x4 := by
  unfold out0_A_8
  rw [View.read_writes_junk_eq_canon]
  funext y
  exact View.canon_apply_of_pieces _ _ (codes_pieces_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).mem y (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)

theorem out_scales_A : out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = scales i x0 x1 x2 x3 x4 := by
  unfold out0_A_9
  rw [View.read_writes_junk_eq_canon]
  funext y
  exact View.canon_apply_of_pieces _ _ (scales_pieces_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).mem y (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)

/-- The stores of the dequantised weights. -/
theorem weight_pieces_A : View.PiecesOf (weight x5 x6) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1 := by
  frame_out
  exact ⟨weight_piece x5 x6 5 7 rfl (weightInb 5 7) _ _ rfl (scalar_ld x6 5 7 rfl _ _),
    weight_piece x5 x6 5 6 rfl (weightInb 5 6) _ _ rfl (scalar_ld x6 5 6 rfl _ _),
    weight_piece x5 x6 5 5 rfl (weightInb 5 5) _ _ rfl (scalar_ld x6 5 5 rfl _ _),
    weight_piece x5 x6 5 4 rfl (weightInb 5 4) _ _ rfl (scalar_ld x6 5 4 rfl _ _),
    weight_piece x5 x6 5 3 rfl (weightInb 5 3) _ _ rfl (scalar_ld x6 5 3 rfl _ _),
    weight_piece x5 x6 5 2 rfl (weightInb 5 2) _ _ rfl (scalar_ld x6 5 2 rfl _ _),
    weight_piece x5 x6 5 1 rfl (weightInb 5 1) _ _ rfl (scalar_ld x6 5 1 rfl _ _),
    weight_piece x5 x6 5 0 rfl (weightInb 5 0) _ _ rfl (scalar_ld x6 5 0 rfl _ _),
    weight_piece x5 x6 4 7 rfl (weightInb 4 7) _ _ rfl (scalar_ld x6 4 7 rfl _ _),
    weight_piece x5 x6 4 6 rfl (weightInb 4 6) _ _ rfl (scalar_ld x6 4 6 rfl _ _),
    weight_piece x5 x6 4 5 rfl (weightInb 4 5) _ _ rfl (scalar_ld x6 4 5 rfl _ _),
    weight_piece x5 x6 4 4 rfl (weightInb 4 4) _ _ rfl (scalar_ld x6 4 4 rfl _ _),
    weight_piece x5 x6 4 3 rfl (weightInb 4 3) _ _ rfl (scalar_ld x6 4 3 rfl _ _),
    weight_piece x5 x6 4 2 rfl (weightInb 4 2) _ _ rfl (scalar_ld x6 4 2 rfl _ _),
    weight_piece x5 x6 4 1 rfl (weightInb 4 1) _ _ rfl (scalar_ld x6 4 1 rfl _ _),
    weight_piece x5 x6 4 0 rfl (weightInb 4 0) _ _ rfl (scalar_ld x6 4 0 rfl _ _),
    weight_piece x5 x6 3 7 rfl (weightInb 3 7) _ _ rfl (scalar_ld x6 3 7 rfl _ _),
    weight_piece x5 x6 3 6 rfl (weightInb 3 6) _ _ rfl (scalar_ld x6 3 6 rfl _ _),
    weight_piece x5 x6 3 5 rfl (weightInb 3 5) _ _ rfl (scalar_ld x6 3 5 rfl _ _),
    weight_piece x5 x6 3 4 rfl (weightInb 3 4) _ _ rfl (scalar_ld x6 3 4 rfl _ _),
    weight_piece x5 x6 3 3 rfl (weightInb 3 3) _ _ rfl (scalar_ld x6 3 3 rfl _ _),
    weight_piece x5 x6 3 2 rfl (weightInb 3 2) _ _ rfl (scalar_ld x6 3 2 rfl _ _),
    weight_piece x5 x6 3 1 rfl (weightInb 3 1) _ _ rfl (scalar_ld x6 3 1 rfl _ _),
    weight_piece x5 x6 3 0 rfl (weightInb 3 0) _ _ rfl (scalar_ld x6 3 0 rfl _ _),
    weight_piece x5 x6 2 7 rfl (weightInb 2 7) _ _ rfl (scalar_ld x6 2 7 rfl _ _),
    weight_piece x5 x6 2 6 rfl (weightInb 2 6) _ _ rfl (scalar_ld x6 2 6 rfl _ _),
    weight_piece x5 x6 2 5 rfl (weightInb 2 5) _ _ rfl (scalar_ld x6 2 5 rfl _ _),
    weight_piece x5 x6 2 4 rfl (weightInb 2 4) _ _ rfl (scalar_ld x6 2 4 rfl _ _),
    weight_piece x5 x6 2 3 rfl (weightInb 2 3) _ _ rfl (scalar_ld x6 2 3 rfl _ _),
    weight_piece x5 x6 2 2 rfl (weightInb 2 2) _ _ rfl (scalar_ld x6 2 2 rfl _ _),
    weight_piece x5 x6 2 1 rfl (weightInb 2 1) _ _ rfl (scalar_ld x6 2 1 rfl _ _),
    weight_piece x5 x6 2 0 rfl (weightInb 2 0) _ _ rfl (scalar_ld x6 2 0 rfl _ _),
    weight_piece x5 x6 1 7 rfl (weightInb 1 7) _ _ rfl (scalar_ld x6 1 7 rfl _ _),
    weight_piece x5 x6 1 6 rfl (weightInb 1 6) _ _ rfl (scalar_ld x6 1 6 rfl _ _),
    weight_piece x5 x6 1 5 rfl (weightInb 1 5) _ _ rfl (scalar_ld x6 1 5 rfl _ _),
    weight_piece x5 x6 1 4 rfl (weightInb 1 4) _ _ rfl (scalar_ld x6 1 4 rfl _ _),
    weight_piece x5 x6 1 3 rfl (weightInb 1 3) _ _ rfl (scalar_ld x6 1 3 rfl _ _),
    weight_piece x5 x6 1 2 rfl (weightInb 1 2) _ _ rfl (scalar_ld x6 1 2 rfl _ _),
    weight_piece x5 x6 1 1 rfl (weightInb 1 1) _ _ rfl (scalar_ld x6 1 1 rfl _ _),
    weight_piece x5 x6 1 0 rfl (weightInb 1 0) _ _ rfl (scalar_ld x6 1 0 rfl _ _),
    weight_piece x5 x6 0 7 rfl (weightInb 0 7) _ _ rfl (scalar_ld x6 0 7 rfl _ _),
    weight_piece x5 x6 0 6 rfl (weightInb 0 6) _ _ rfl (scalar_ld x6 0 6 rfl _ _),
    weight_piece x5 x6 0 5 rfl (weightInb 0 5) _ _ rfl (scalar_ld x6 0 5 rfl _ _),
    weight_piece x5 x6 0 4 rfl (weightInb 0 4) _ _ rfl (scalar_ld x6 0 4 rfl _ _),
    weight_piece x5 x6 0 3 rfl (weightInb 0 3) _ _ rfl (scalar_ld x6 0 3 rfl _ _),
    weight_piece x5 x6 0 2 rfl (weightInb 0 2) _ _ rfl (scalar_ld x6 0 2 rfl _ _),
    weight_piece x5 x6 0 1 rfl (weightInb 0 1) _ _ rfl (scalar_ld x6 0 1 rfl _ _),
    weight_piece x5 x6 0 0 rfl (weightInb 0 0) _ _ rfl (scalar_ld x6 0 0 rfl _ _), trivial⟩

theorem out_weight_A : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = weight x5 x6 := by
  unfold sout0_A_0
  rw [View.read_writes_junk_eq_canon]
  funext y
  exact View.canon_apply_of_pieces _ _ (weight_pieces_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).mem y (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)

/-- The one store into the block of the product: the weights in the scratch times the gradient. -/
theorem dx_piece_A : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1 = [⟨Rect.unit ![0, 0, 0] S1x512x768.size inb_S1x512x768_S1x512x768_0_0_0,
    k0_pay2 (arg12.view.readCov (Val := Elt F) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1 (Rect.unit (s := S768x1024) ![0, 0] S768x1024.size inb_S768x1024_S768x1024_0_0).toLoadRect)
      (arg13.view.readCov (Val := Elt F) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1 (Rect.unit (s := S1024x512) ![0, 0] S1024x512.size inb_S1024x512_S1024x512_0_0).toLoadRect)⟩] := rfl

/-- The block of the product. -/
theorem out_dx_A : out0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay2 (weight x5 x6) (grad i x0 x1 x2 x3 x4) := by
  unfold out0_A_7
  rw [View.read_writes_junk_eq_canon, dx_piece_A, View.canon_unit_zero (by decide)]
  refine congr (congrArg k0_pay2 ?_) ?_
  · exact readCov_of_pieces _ _ _ (weight_pieces_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) (by decide) _
  · exact readCov_of_pieces _ _ _ (grad_pieces_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) (grad_cover_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) (by decide) _

end Cert.KernelIdeal.Tile

end
-- ==== Proof.RunB.lean ====
/- What the body leaves at every later point of the grid: its stores are the tiles of Tile.lean at their places, so each
   output block is one function of the point's input blocks. -/
module

public import proofs.«01_k».proof.Proof.Tile
public import proofs.«01_k».proof.Proof.Gen.KernelIdeal.Frame

@[expose] public section

set_option maxRecDepth 16384

noncomputable section

namespace Cert.KernelIdeal.Tile

open Idealize.ShloMosaic Idealize.SL.Sem Cert.KernelIdeal.Gen Idealize.ShloMosaic.TcCoe Idealize.ShloMosaic.Tactic

variable {F : FTy → Type} [FloatOps F]

variable (c : Dev nD) (i : grid0.Coords) (arg2 : Memref sig .tc .vmem S1x6x512x128 .bf16) (harg2 : arg2.IsWhole) (arg3 : Memref sig .tc .vmem S1x1x512x128 .bf16) (harg3 : arg3.IsWhole) (arg4 : Memref sig .tc .vmem S1x1x512x128 .bf16) (harg4 : arg4.IsWhole) (arg5 : Memref sig .tc .vmem S4x512 .i32) (harg5 : arg5.IsWhole) (arg6 : Memref sig .tc .vmem S64x128 .f32) (harg6 : arg6.IsWhole) (arg7 : Memref sig .tc .vmem S768x1024 .fp8e4m3) (harg7 : arg7.IsWhole) (arg8 : Memref sig .tc .smem S6x8 .f32) (harg8 : arg8.IsWhole) (arg9 : Memref sig .tc .vmem S1x512x768 .bf16) (harg9 : arg9.IsWhole) (arg10 : Memref sig .tc .vmem S1x512x1024 .fp8e5m2) (harg10 : arg10.IsWhole) (arg11 : Memref sig .tc .vmem S1x8x512 .f32) (harg11 : arg11.IsWhole) (arg12 : Memref sig .tc .vmem S768x1024 .bf16) (harg12 : arg12.IsWhole) (arg13 : Memref sig .tc .vmem S1024x512 .bf16) (harg13 : arg13.IsWhole) (arg14 : Memref sig .tc .vmem S8x128x128 .f32) (harg14 : arg14.IsWhole) (hc0 : ¬cond0_0 i)
    (x0 : Vec F S1x6x512x128 .bf16) (x1 : Vec F S1x1x512x128 .bf16) (x2 : Vec F S1x1x512x128 .bf16) (x3 : Vec F S4x512 .i32) (x4 : Vec F S64x128 .f32) (x5 : Vec F S768x1024 .fp8e4m3) (x6 : Vec F S6x8 .f32) (xs0 : Vec F S768x1024 .bf16)

/-- The stores into the block of codes. -/
theorem codes_pieces_B : View.PiecesOf (codes i x0 x1 x2 x3 x4) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.1 := by
  frame_out
  exact ⟨codes_piece i x0 x1 x2 x3 x4 3 7 rfl (codesInb 3 7) _ _ rfl (readBack_of _ _ _ _ _ _ _ _ _ _ _ rfl rfl rfl rfl rfl),
    codes_piece i x0 x1 x2 x3 x4 3 6 rfl (codesInb 3 6) _ _ rfl (readBack_of _ _ _ _ _ _ _ _ _ _ _ rfl rfl rfl rfl rfl),
    codes_piece i x0 x1 x2 x3 x4 3 5 rfl (codesInb 3 5) _ _ rfl (readBack_of _ _ _ _ _ _ _ _ _ _ _ rfl rfl rfl rfl rfl),
    codes_piece i x0 x1 x2 x3 x4 3 4 rfl (codesInb 3 4) _ _ rfl (readBack_of _ _ _ _ _ _ _ _ _ _ _ rfl rfl rfl rfl rfl),
    codes_piece i x0 x1 x2 x3 x4 3 3 rfl (codesInb 3 3) _ _ rfl (readBack_of _ _ _ _ _ _ _ _ _ _ _ rfl rfl rfl rfl rfl),
    codes_piece i x0 x1 x2 x3 x4 3 2 rfl (codesInb 3 2) _ _ rfl (readBack_of _ _ _ _ _ _ _ _ _ _ _ rfl rfl rfl rfl rfl),
    codes_piece i x0 x1 x2 x3 x4 3 1 rfl (codesInb 3 1) _ _ rfl (readBack_of _ _ _ _ _ _ _ _ _ _ _ rfl rfl rfl rfl rfl),
    codes_piece i x0 x1 x2 x3 x4 3 0 rfl (codesInb 3 0) _ _ rfl (readBack_of _ _ _ _ _ _ _ _ _ _ _ rfl rfl rfl rfl rfl),
    codes_piece i x0 x1 x2 x3 x4 2 7 rfl (codesInb 2 7) _ _ rfl (readBack_of _ _ _ _ _ _ _ _ _ _ _ rfl rfl rfl rfl rfl),
    codes_piece i x0 x1 x2 x3 x4 2 6 rfl (codesInb 2 6) _ _ rfl (readBack_of _ _ _ _ _ _ _ _ _ _ _ rfl rfl rfl rfl rfl),
    codes_piece i x0 x1 x2 x3 x4 2 5 rfl (codesInb 2 5) _ _ rfl (readBack_of _ _ _ _ _ _ _ _ _ _ _ rfl rfl rfl rfl rfl),
    codes_piece i x0 x1 x2 x3 x4 2 4 rfl (codesInb 2 4) _ _ rfl (readBack_of _ _ _ _ _ _ _ _ _ _ _ rfl rfl rfl rfl rfl),
    codes_piece i x0 x1 x2 x3 x4 2 3 rfl (codesInb 2 3) _ _ rfl (readBack_of _ _ _ _ _ _ _ _ _ _ _ rfl rfl rfl rfl rfl),
    codes_piece i x0 x1 x2 x3 x4 2 2 rfl (codesInb 2 2) _ _ rfl (readBack_of _ _ _ _ _ _ _ _ _ _ _ rfl rfl rfl rfl rfl),
    codes_piece i x0 x1 x2 x3 x4 2 1 rfl (codesInb 2 1) _ _ rfl (readBack_of _ _ _ _ _ _ _ _ _ _ _ rfl rfl rfl rfl rfl),
    codes_piece i x0 x1 x2 x3 x4 2 0 rfl (codesInb 2 0) _ _ rfl (readBack_of _ _ _ _ _ _ _ _ _ _ _ rfl rfl rfl rfl rfl),
    codes_piece i x0 x1 x2 x3 x4 1 7 rfl (codesInb 1 7) _ _ rfl (readBack_of _ _ _ _ _ _ _ _ _ _ _ rfl rfl rfl rfl rfl),
    codes_piece i x0 x1 x2 x3 x4 1 6 rfl (codesInb 1 6) _ _ rfl (readBack_of _ _ _ _ _ _ _ _ _ _ _ rfl rfl rfl rfl rfl),
    codes_piece i x0 x1 x2 x3 x4 1 5 rfl (codesInb 1 5) _ _ rfl (readBack_of _ _ _ _ _ _ _ _ _ _ _ rfl rfl rfl rfl rfl),
    codes_piece i x0 x1 x2 x3 x4 1 4 rfl (codesInb 1 4) _ _ rfl (readBack_of _ _ _ _ _ _ _ _ _ _ _ rfl rfl rfl rfl rfl),
    codes_piece i x0 x1 x2 x3 x4 1 3 rfl (codesInb 1 3) _ _ rfl (readBack_of _ _ _ _ _ _ _ _ _ _ _ rfl rfl rfl rfl rfl),
    codes_piece i x0 x1 x2 x3 x4 1 2 rfl (codesInb 1 2) _ _ rfl (readBack_of _ _ _ _ _ _ _ _ _ _ _ rfl rfl rfl rfl rfl),
    codes_piece i x0 x1 x2 x3 x4 1 1 rfl (codesInb 1 1) _ _ rfl (readBack_of _ _ _ _ _ _ _ _ _ _ _ rfl rfl rfl rfl rfl),
    codes_piece i x0 x1 x2 x3 x4 1 0 rfl (codesInb 1 0) _ _ rfl (readBack_of _ _ _ _ _ _ _ _ _ _ _ rfl rfl rfl rfl rfl),
    codes_piece i x0 x1 x2 x3 x4 0 7 rfl (codesInb 0 7) _ _ rfl (readBack_of _ _ _ _ _ _ _ _ _ _ _ rfl rfl rfl rfl rfl),
    codes_piece i x0 x1 x2 x3 x4 0 6 rfl (codesInb 0 6) _ _ rfl (readBack_of _ _ _ _ _ _ _ _ _ _ _ rfl rfl rfl rfl rfl),
    codes_piece i x0 x1 x2 x3 x4 0 5 rfl (codesInb 0 5) _ _ rfl (readBack_of _ _ _ _ _ _ _ _ _ _ _ rfl rfl rfl rfl rfl),
    codes_piece i x0 x1 x2 x3 x4 0 4 rfl (codesInb 0 4) _ _ rfl (readBack_of _ _ _ _ _ _ _ _ _ _ _ rfl rfl rfl rfl rfl),
    codes_piece i x0 x1 x2 x3 x4 0 3 rfl (codesInb 0 3) _ _ rfl (readBack_of _ _ _ _ _ _ _ _ _ _ _ rfl rfl rfl rfl rfl),
    codes_piece i x0 x1 x2 x3 x4 0 2 rfl (codesInb 0 2) _ _ rfl (readBack_of _ _ _ _ _ _ _ _ _ _ _ rfl rfl rfl rfl rfl),
    codes_piece i x0 x1 x2 x3 x4 0 1 rfl (codesInb 0 1) _ _ rfl (readBack_of _ _ _ _ _ _ _ _ _ _ _ rfl rfl rfl rfl rfl),
    codes_piece i x0 x1 x2 x3 x4 0 0 rfl (codesInb 0 0) _ _ rfl (readBack_of _ _ _ _ _ _ _ _ _ _ _ rfl rfl rfl rfl rfl), trivial⟩

/-- The stores into the block of scales. -/
theorem scales_pieces_B : View.PiecesOf (scales i x0 x1 x2 x3 x4) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.1 := by
  frame_out
  exact ⟨scales_piece i x0 x1 x2 x3 x4 3 rfl (scalesInb 3) _ rfl,
    scales_piece i x0 x1 x2 x3 x4 2 rfl (scalesInb 2) _ rfl,
    scales_piece i x0 x1 x2 x3 x4 1 rfl (scalesInb 1) _ rfl,
    scales_piece i x0 x1 x2 x3 x4 0 rfl (scalesInb 0) _ rfl, trivial⟩

/-- The stores of the dequantised gradient into the scratch the product reads. -/
theorem grad_pieces_B : View.PiecesOf (grad i x0 x1 x2 x3 x4) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.1 := by
  frame_out
  exact ⟨grad_piece i x0 x1 x2 x3 x4 3 7 rfl (gradInb 3 7) _ _ rfl (readBack_of _ _ _ _ _ _ _ _ _ _ _ rfl rfl rfl rfl rfl),
    grad_piece i x0 x1 x2 x3 x4 3 6 rfl (gradInb 3 6) _ _ rfl (readBack_of _ _ _ _ _ _ _ _ _ _ _ rfl rfl rfl rfl rfl),
    grad_piece i x0 x1 x2 x3 x4 3 5 rfl (gradInb 3 5) _ _ rfl (readBack_of _ _ _ _ _ _ _ _ _ _ _ rfl rfl rfl rfl rfl),
    grad_piece i x0 x1 x2 x3 x4 3 4 rfl (gradInb 3 4) _ _ rfl (readBack_of _ _ _ _ _ _ _ _ _ _ _ rfl rfl rfl rfl rfl),
    grad_piece i x0 x1 x2 x3 x4 3 3 rfl (gradInb 3 3) _ _ rfl (readBack_of _ _ _ _ _ _ _ _ _ _ _ rfl rfl rfl rfl rfl),
    grad_piece i x0 x1 x2 x3 x4 3 2 rfl (gradInb 3 2) _ _ rfl (readBack_of _ _ _ _ _ _ _ _ _ _ _ rfl rfl rfl rfl rfl),
    grad_piece i x0 x1 x2 x3 x4 3 1 rfl (gradInb 3 1) _ _ rfl (readBack_of _ _ _ _ _ _ _ _ _ _ _ rfl rfl rfl rfl rfl),
    grad_piece i x0 x1 x2 x3 x4 3 0 rfl (gradInb 3 0) _ _ rfl (readBack_of _ _ _ _ _ _ _ _ _ _ _ rfl rfl rfl rfl rfl),
    grad_piece i x0 x1 x2 x3 x4 2 7 rfl (gradInb 2 7) _ _ rfl (readBack_of _ _ _ _ _ _ _ _ _ _ _ rfl rfl rfl rfl rfl),
    grad_piece i x0 x1 x2 x3 x4 2 6 rfl (gradInb 2 6) _ _ rfl (readBack_of _ _ _ _ _ _ _ _ _ _ _ rfl rfl rfl rfl rfl),
    grad_piece i x0 x1 x2 x3 x4 2 5 rfl (gradInb 2 5) _ _ rfl (readBack_of _ _ _ _ _ _ _ _ _ _ _ rfl rfl rfl rfl rfl),
    grad_piece i x0 x1 x2 x3 x4 2 4 rfl (gradInb 2 4) _ _ rfl (readBack_of _ _ _ _ _ _ _ _ _ _ _ rfl rfl rfl rfl rfl),
    grad_piece i x0 x1 x2 x3 x4 2 3 rfl (gradInb 2 3) _ _ rfl (readBack_of _ _ _ _ _ _ _ _ _ _ _ rfl rfl rfl rfl rfl),
    grad_piece i x0 x1 x2 x3 x4 2 2 rfl (gradInb 2 2) _ _ rfl (readBack_of _ _ _ _ _ _ _ _ _ _ _ rfl rfl rfl rfl rfl),
    grad_piece i x0 x1 x2 x3 x4 2 1 rfl (gradInb 2 1) _ _ rfl (readBack_of _ _ _ _ _ _ _ _ _ _ _ rfl rfl rfl rfl rfl),
    grad_piece i x0 x1 x2 x3 x4 2 0 rfl (gradInb 2 0) _ _ rfl (readBack_of _ _ _ _ _ _ _ _ _ _ _ rfl rfl rfl rfl rfl),
    grad_piece i x0 x1 x2 x3 x4 1 7 rfl (gradInb 1 7) _ _ rfl (readBack_of _ _ _ _ _ _ _ _ _ _ _ rfl rfl rfl rfl rfl),
    grad_piece i x0 x1 x2 x3 x4 1 6 rfl (gradInb 1 6) _ _ rfl (readBack_of _ _ _ _ _ _ _ _ _ _ _ rfl rfl rfl rfl rfl),
    grad_piece i x0 x1 x2 x3 x4 1 5 rfl (gradInb 1 5) _ _ rfl (readBack_of _ _ _ _ _ _ _ _ _ _ _ rfl rfl rfl rfl rfl),
    grad_piece i x0 x1 x2 x3 x4 1 4 rfl (gradInb 1 4) _ _ rfl (readBack_of _ _ _ _ _ _ _ _ _ _ _ rfl rfl rfl rfl rfl),
    grad_piece i x0 x1 x2 x3 x4 1 3 rfl (gradInb 1 3) _ _ rfl (readBack_of _ _ _ _ _ _ _ _ _ _ _ rfl rfl rfl rfl rfl),
    grad_piece i x0 x1 x2 x3 x4 1 2 rfl (gradInb 1 2) _ _ rfl (readBack_of _ _ _ _ _ _ _ _ _ _ _ rfl rfl rfl rfl rfl),
    grad_piece i x0 x1 x2 x3 x4 1 1 rfl (gradInb 1 1) _ _ rfl (readBack_of _ _ _ _ _ _ _ _ _ _ _ rfl rfl rfl rfl rfl),
    grad_piece i x0 x1 x2 x3 x4 1 0 rfl (gradInb 1 0) _ _ rfl (readBack_of _ _ _ _ _ _ _ _ _ _ _ rfl rfl rfl rfl rfl),
    grad_piece i x0 x1 x2 x3 x4 0 7 rfl (gradInb 0 7) _ _ rfl (readBack_of _ _ _ _ _ _ _ _ _ _ _ rfl rfl rfl rfl rfl),
    grad_piece i x0 x1 x2 x3 x4 0 6 rfl (gradInb 0 6) _ _ rfl (readBack_of _ _ _ _ _ _ _ _ _ _ _ rfl rfl rfl rfl rfl),
    grad_piece i x0 x1 x2 x3 x4 0 5 rfl (gradInb 0 5) _ _ rfl (readBack_of _ _ _ _ _ _ _ _ _ _ _ rfl rfl rfl rfl rfl),
    grad_piece i x0 x1 x2 x3 x4 0 4 rfl (gradInb 0 4) _ _ rfl (readBack_of _ _ _ _ _ _ _ _ _ _ _ rfl rfl rfl rfl rfl),
    grad_piece i x0 x1 x2 x3 x4 0 3 rfl (gradInb 0 3) _ _ rfl (readBack_of _ _ _ _ _ _ _ _ _ _ _ rfl rfl rfl rfl rfl),
    grad_piece i x0 x1 x2 x3 x4 0 2 rfl (gradInb 0 2) _ _ rfl (readBack_of _ _ _ _ _ _ _ _ _ _ _ rfl rfl rfl rfl rfl),
    grad_piece i x0 x1 x2 x3 x4 0 1 rfl (gradInb 0 1) _ _ rfl (readBack_of _ _ _ _ _ _ _ _ _ _ _ rfl rfl rfl rfl rfl),
    grad_piece i x0 x1 x2 x3 x4 0 0 rfl (gradInb 0 0) _ _ rfl (readBack_of _ _ _ _ _ _ _ _ _ _ _ rfl rfl rfl rfl rfl), trivial⟩

/-- They cover it. -/
theorem grad_cover_B (y : S1024x512.Idx) : ∃ p ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.1, y ∈ p.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.1 S128x128.size (by sl_kernel_rfl) y

theorem out_codes_B : out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = codes i x0 x1 x2 x3 x4 := by
  unfold out0_B_8
  rw [View.read_writes_junk_eq_canon]
  funext y
  exact View.canon_apply_of_pieces _ _ (codes_pieces_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).mem y (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 y)

theorem out_scales_B : out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = scales i x0 x1 x2 x3 x4 := by
  unfold out0_B_9
  rw [View.read_writes_junk_eq_canon]
  funext y
  exact View.canon_apply_of_pieces _ _ (scales_pieces_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).mem y (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 y)

/-- The one store into the block of the product: the weights in the scratch times the gradient. -/
theorem dx_piece_B : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).1 = [⟨Rect.unit ![0, 0, 0] S1x512x768.size inb_S1x512x768_S1x512x768_0_0_0,
    k0_pay2 (View.readAt (Elt F) arg12.view (Rect.unit (s := S768x1024) ![0, 0] S768x1024.size inb_S768x1024_S768x1024_0_0).toLoadRect (harg12.unread xs0))
      (arg13.view.readCov (Val := Elt F) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.1 (Rect.unit (s := S1024x512) ![0, 0] S1024x512.size inb_S1024x512_S1024x512_0_0).toLoadRect)⟩] := rfl

/-- The block of the product. -/
theorem out_dx_B : out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay2 (xs0) (grad i x0 x1 x2 x3 x4) := by
  unfold out0_B_7
  rw [View.read_writes_junk_eq_canon, dx_piece_B, View.canon_unit_zero (by decide)]
  refine congr (congrArg k0_pay2 ?_) ?_
  · exact (View.readAt_eq_ld _ _ _).trans (by rw [harg12.read_unread]; exact View.ld_unit_zero (by decide) _ _)
  · exact readCov_of_pieces _ _ _ (grad_pieces_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0) (grad_cover_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0) (by decide) _

end Cert.KernelIdeal.Tile

end
-- ==== Proof.Blocks.lean ====
/- What each output block holds after every grid point: the weights are dequantised at the first point and carried, so a
   point's blocks are functions of its own input blocks and of those weights. -/
module

public import proofs.«01_k».proof.Proof.RunA
public import proofs.«01_k».proof.Proof.RunB

@[expose] public section

set_option maxRecDepth 16384

noncomputable section

namespace Cert.KernelIdeal.Tile

open Idealize.ShloMosaic Idealize.SL.Sem Cert.KernelIdeal.Gen Idealize.ShloMosaic.TcCoe

variable {F : FTy → Type} [FloatOps F] (m : (ℓ : Loc nD τ sig) → Buf (Elt F) ℓ) (c : Dev nD)

/-- The first grid point. -/
def first : Fin cfg0.N := ⟨0, lt_of_lt_of_eq (by decide : 0 < 32) (show cfg0.N = 32 from N_0).symm⟩

/-- The dequantised weights: computed at the first grid point. -/
def carried : Vec F S768x1024 .bf16 := weight (iblk m c 5 first) (iblk m c 6 first)

theorem carried_first (hn : 0 < cfg0.N) : (outsAt0 m c 0 hn).2.2.2 = carried m c := by
  have e : first = (⟨0, hn⟩ : Fin cfg0.N) := rfl
  unfold carried
  rw [outsAt0_A m c ⟨0, hn⟩ (Nat.zero_mod _), e]
  dsimp only
  exact out_weight_A (F := F) _ _ _ _ _ _ _ _ _ _ _ _ _ _ _ _ _ _ _ _ _ _ _ _ _ _ _ _ _ _ _ _ _ _ _ _

theorem carried_at (n : ℕ) (hn : n < cfg0.N) : (outsAt0 m c n hn).2.2.2 = carried m c := by
  induction n with
  | zero => exact carried_first m c hn
  | succ n ih =>
    have hN := lt_of_lt_of_eq hn (show cfg0.N = 32 from N_0)
    rw [outsAt0_B m c ⟨n + 1, hn⟩ (by show ¬ (n + 1) % 32 = 0; omega)]
    exact ih (Nat.lt_of_succ_lt hn)

/-- The block of codes after point `t`. -/
theorem codes_at (t : Fin cfg0.N) : (outsAt0 m c t.val t.isLt).2.1 = codes (grid0.coords t) (iblk m c 0 t) (iblk m c 1 t) (iblk m c 2 t) (iblk m c 3 t) (iblk m c 4 t) := by
  by_cases h : t.val % 32 = 0
  · rw [outsAt0_A m c t h]; dsimp only; exact out_codes_A (F := F) _ _ _ _ _ _ _ _ _ _ _ _ _ _ _ _ _ _ _ _ _ _ _ _ _ _ _ _ _ _ _ _ _ _ _ _
  · rw [outsAt0_B m c t h]; dsimp only; exact out_codes_B (F := F) _ _ _ _ _ _ _ _ _ _ _ _ _ _ _ _ _ _ _ _ _ _ _ _ _ _ _ _ _ _ _ _ _ _ _ _ _

/-- The block of scales after point `t`. -/
theorem scales_at (t : Fin cfg0.N) : (outsAt0 m c t.val t.isLt).2.2.1 = scales (grid0.coords t) (iblk m c 0 t) (iblk m c 1 t) (iblk m c 2 t) (iblk m c 3 t) (iblk m c 4 t) := by
  by_cases h : t.val % 32 = 0
  · rw [outsAt0_A m c t h]; dsimp only; exact out_scales_A (F := F) _ _ _ _ _ _ _ _ _ _ _ _ _ _ _ _ _ _ _ _ _ _ _ _ _ _ _ _ _ _ _ _ _ _ _ _
  · rw [outsAt0_B m c t h]; dsimp only; exact out_scales_B (F := F) _ _ _ _ _ _ _ _ _ _ _ _ _ _ _ _ _ _ _ _ _ _ _ _ _ _ _ _ _ _ _ _ _ _ _ _ _

/-- The block of the product after point `t`. -/
theorem dx_at (t : Fin cfg0.N) :
    (outsAt0 m c t.val t.isLt).1 = k0_pay2 (carried m c) (grad (grid0.coords t) (iblk m c 0 t) (iblk m c 1 t) (iblk m c 2 t) (iblk m c 3 t) (iblk m c 4 t)) := by
  by_cases h : t.val % 32 = 0
  · have hN := lt_of_lt_of_eq t.isLt (show cfg0.N = 32 from N_0)
    have ht : t = first := Fin.ext (by show t.val = 0; omega)
    have e : carried m c = weight (iblk m c 5 t) (iblk m c 6 t) := by rw [ht]; rfl
    rw [outsAt0_A m c t h, e]; dsimp only; exact out_dx_A (F := F) _ _ _ _ _ _ _ _ _ _ _ _ _ _ _ _ _ _ _ _ _ _ _ _ _ _ _ _ _ _ _ _ _ _ _ _
  · have e := carried_at m c (t.val - 1) (Nat.lt_of_le_of_lt (Nat.sub_le _ _) t.isLt)
    rw [outsAt0_B m c t h, ← e]; dsimp only; exact out_dx_B (F := F) _ _ _ _ _ _ _ _ _ _ _ _ _ _ _ _ _ _ _ _ _ _ _ _ _ _ _ _ _ _ _ _ _ _ _ _ _

end Cert.KernelIdeal.Tile
-- ==== Proof.Spec.lean ====
/- The scalar mathematics of the computation over the extended reals, in the reference's own form: the frequencies, the
   cosine and sine of an angle by reduction to a quarter turn and a polynomial, and the two rotated halves. -/
module

public import Idealize.ShloMosaic.Lib.Pointwise
public import Idealize.ShloMosaic.PureOps.Ideal

@[expose] public section

noncomputable section

namespace Cert.Spec

open Idealize.ShloMosaic

/-- The value of an f32 word. -/
abbrev K (b : BitVec 32) : EReal := Ideal.ofBits .f32 b

/-- An integer as an extended real. -/
abbrev int (b : BitVec 32) : EReal := FloatOps.sitofp (F := Ideal) .f32 b

/-- The rotary frequency of pair `j`: `1 / 10000 ^ (2 j / 128)`. -/
def freq (j : ℕ) : EReal :=
  Ideal.div 1 (Ideal.pow (K 1176256512#32) (Ideal.div (K 1073741824#32 * int (BitVec.ofNat 32 j)) (K 1124073472#32)))

/-- The angle of a token at position `p` for pair `j`. -/
def angle (p : BitVec 32) (j : ℕ) : EReal := int p * freq j

/-- The number of quarter turns nearest to an angle. -/
def turns (a : EReal) : EReal := Ideal.liftRound Ideal.roundHalfEven (a * K 1059256707#32)

/-- What is left of the angle after those quarter turns. -/
def rest (a : EReal) : EReal := a - turns a * K 1070137344#32 - turns a * K 972922880#32 - turns a * K 866263401#32

/-- The polynomial for the cosine of a remainder. -/
def cosPoly (r : EReal) : EReal :=
  1 + r * r * (K 3204448256#32 + r * r * (K 1026206373#32 + r * r * (K 3132491290#32 + r * r * K 936179150#32)))

/-- The polynomial for the sine of a remainder. -/
def sinPoly (r : EReal) : EReal :=
  r * (1 + r * r * (K 3190467235#32 + r * r * (K 1007190942#32 + r * r * K 3108807161#32)))

/-- The number of quarter turns as a word. -/
def word (a : EReal) : BitVec 32 := FloatOps.fptosi (F := Ideal) (φ := .f32) 32 (turns a)

/-- The cosine of an angle: the polynomials chosen by the quarter turns modulo four. -/
def cosA (a : EReal) : EReal :=
  Scalar.select (IntOp.cmpi .eq (IntOp.andi (word a) 3#32) 0#32) (cosPoly (rest a))
    (Scalar.select (IntOp.cmpi .eq (IntOp.andi (word a) 3#32) 1#32) (-(sinPoly (rest a)))
      (Scalar.select (IntOp.cmpi .eq (IntOp.andi (word a) 3#32) 2#32) (-(cosPoly (rest a))) (sinPoly (rest a))))

/-- The sine of an angle. -/
def sinA (a : EReal) : EReal :=
  Scalar.select (IntOp.cmpi .eq (IntOp.andi (word a) 3#32) 0#32) (sinPoly (rest a))
    (Scalar.select (IntOp.cmpi .eq (IntOp.andi (word a) 3#32) 1#32) (cosPoly (rest a))
      (Scalar.select (IntOp.cmpi .eq (IntOp.andi (word a) 3#32) 2#32) (-(sinPoly (rest a))) (-(cosPoly (rest a)))))

/-- The even entry of a pair rotated back by an angle. -/
def rotE (a e o : EReal) : EReal := e * cosA a + o * sinA a

/-- The odd entry of a pair rotated back by an angle. -/
def rotO (a e o : EReal) : EReal := o * cosA a - e * sinA a

/-- A head vector `g` rotated back by the angles of position `p`, entry `e`. -/
def back (p : BitVec 32) (g : Fin 128 → EReal) (e : Fin 128) : EReal :=
  if e.val % 2 < 1 then rotE (angle p (e.val / 2)) (g ⟨e.val / 2 * 2, by omega⟩) (g ⟨e.val / 2 * 2 + 1, by omega⟩)
  else rotO (angle p (e.val / 2)) (g ⟨e.val / 2 * 2, by omega⟩) (g ⟨e.val / 2 * 2 + 1, by omega⟩)

/-- The eight head vectors of one token: six of `q` and one of `k` rotated back, then `v`. -/
def head (p : BitVec 32) (q : Fin 6 → Fin 128 → EReal) (k v : Fin 128 → EReal) (h : Fin 8) (e : Fin 128) : EReal :=
  if hq : h.val < 6 then back p (q ⟨h.val, hq⟩) e else if h.val - 6 < 1 then back p k e else v e

/-- The scaled maximum magnitude of a head vector. -/
def peak (x : Fin 128 → EReal) : EReal :=
  Finset.fold max (K 4286578688#32) (fun e => max (x e) (-(x e))) Finset.univ * K 932333861#32

/-- The powers of two from `2 ^ -125` to `2 ^ 113`. -/
def power (k : Fin 239) : EReal := K (BitVec.ofNat 32 ((k.val + 2) * 2 ^ 23))

/-- The least of the powers of two above `x`. -/
def above (x : EReal) : EReal :=
  Finset.fold min (K 2139095040#32) (fun k => if x < power k then power k else K 2013265920#32) Finset.univ

/-- The scale of a group of scaled maximum magnitude `x`. -/
def scale (x : EReal) : EReal := if x < K 8388608#32 then 1 else above x

/-- The code of `x` under scale `s`. -/
def code (x s : EReal) : EReal := min (K 1197473792#32) (max (K 3344957440#32) (x * Ideal.div 1 s))

/-- The sum over the 1024 lanes of one token's dequantised codes times one row of dequantised weights. -/
def dot (x : Fin 8 → Fin 128 → EReal) (w : Fin 1024 → EReal) (ws : Fin 8 → EReal) : EReal :=
  ∑ n : Fin 1024, code (x ⟨n.val / 128, by omega⟩ ⟨n.val % 128, by omega⟩) (scale (peak (x ⟨n.val / 128, by omega⟩))) *
    scale (peak (x ⟨n.val / 128, by omega⟩)) * (w n * ws ⟨n.val / 128, by omega⟩)

end Cert.Spec
-- ==== Proof.Scalars.lean ====
/- Facts about extended reals and words: the powers of two, finiteness of the angles, the polynomials in their two forms,
   the quadrants from the two low bits, the maximum over pairs. -/
module

public import proofs.«01_k».proof.Proof.Spec
public import Mathlib.Data.Nat.Bitwise

@[expose] public section

set_option maxRecDepth 16384

noncomputable section

namespace Cert.Spec

open Idealize.ShloMosaic

/-! ## Values of words -/

theorem fields_pow : ∀ e : Fin 255, (BitVec.ofNat 32 (e.val * 2 ^ 23)).extractLsb' 31 1 = 0#1 ∧
    ((BitVec.ofNat 32 (e.val * 2 ^ 23)).extractLsb' 23 8).toNat = e.val ∧ ((BitVec.ofNat 32 (e.val * 2 ^ 23)).extractLsb' 0 23).toNat = 0 := by
  decide +kernel

/-- A word with exponent field `e` and nothing else is a power of two. -/
theorem K_pow (e : ℕ) (h1 : 1 ≤ e) (h2 : e ≤ 254) : K (BitVec.ofNat 32 (e * 2 ^ 23)) = (((2 : ℝ) ^ ((e : ℤ) - 127) : ℝ) : EReal) := by
  obtain ⟨f1, f2, f3⟩ := fields_pow ⟨e, by omega⟩
  show Ideal.ieee 8 23 _ = _
  unfold Ideal.ieee
  simp only [f1, f2, f3]
  rw [if_neg (by omega), if_neg (by omega)]
  congr 1
  have : (2 : ℝ) ^ ((e : ℤ) - 127) = 2 ^ (23 : ℤ) * 2 ^ ((e : ℤ) - (2 ^ (8 - 1) - 1) - 23) := by
    rw [← zpow_add₀ (by norm_num)]; congr 1; norm_num
  rw [this]
  norm_num

/-- A word whose exponent field is not full is a real number. -/
theorem K_real (w : BitVec 32) (h : (w.extractLsb' 23 8).toNat ≠ 255) : ∃ r : ℝ, K w = r := by
  show ∃ r : ℝ, Ideal.ieee 8 23 w = r
  unfold Ideal.ieee
  dsimp only
  rw [if_neg (show ¬ _ = 2 ^ 8 - 1 from h)]
  split
  · exact ⟨_, rfl⟩
  · exact ⟨_, rfl⟩

theorem K_half : K 1056964608#32 = ((1 / 2 : ℝ) : EReal) := by
  rw [show (1056964608#32 : BitVec 32) = BitVec.ofNat 32 (126 * 2 ^ 23) from rfl, K_pow 126 (by omega) (by omega)]
  norm_num

theorem K_neg_half : K 3204448256#32 = ((-(1 / 2) : ℝ) : EReal) := by
  show Ideal.ieee 8 23 (3204448256#32 : BitVec 32) = _
  unfold Ideal.ieee
  have f1 : (3204448256#32 : BitVec 32).extractLsb' 31 1 = 1#1 := by decide
  have f2 : ((3204448256#32 : BitVec 32).extractLsb' 23 8).toNat = 126 := by decide
  have f3 : ((3204448256#32 : BitVec 32).extractLsb' 0 23).toNat = 0 := by decide
  simp only [f1, f2, f3]
  norm_num

theorem K_base : ∃ r : ℝ, 0 < r ∧ K 1176256512#32 = r := by
  show ∃ r : ℝ, 0 < r ∧ Ideal.ieee 8 23 (1176256512#32 : BitVec 32) = r
  unfold Ideal.ieee
  have f1 : (1176256512#32 : BitVec 32).extractLsb' 31 1 = 0#1 := by decide
  have f2 : ((1176256512#32 : BitVec 32).extractLsb' 23 8).toNat = 140 := by decide
  have f3 : ((1176256512#32 : BitVec 32).extractLsb' 0 23).toNat = 1851392 := by decide
  simp only [f1, f2, f3]
  refine ⟨_, ?_, by rw [if_neg (by norm_num), if_neg (by norm_num)]⟩
  norm_num

theorem K_top : K 2139095040#32 = ⊤ := by
  show Ideal.ieee 8 23 (2139095040#32 : BitVec 32) = _
  unfold Ideal.ieee
  have f1 : (2139095040#32 : BitVec 32).extractLsb' 31 1 = 0#1 := by decide
  have f2 : ((2139095040#32 : BitVec 32).extractLsb' 23 8).toNat = 255 := by decide
  have f3 : ((2139095040#32 : BitVec 32).extractLsb' 0 23).toNat = 0 := by decide
  simp only [f1, f2, f3]
  norm_num

/-- The powers of two are in order. -/
theorem K_mono {a b : ℕ} (h1 : 1 ≤ a) (h : a ≤ b) (h2 : b ≤ 254) : K (BitVec.ofNat 32 (a * 2 ^ 23)) ≤ K (BitVec.ofNat 32 (b * 2 ^ 23)) := by
  rw [K_pow a h1 (by omega), K_pow b (by omega) h2]
  exact EReal.coe_le_coe_iff.mpr (zpow_le_zpow_right₀ (by norm_num) (by omega))

/-! ## Finite values -/

theorem div_real (x y : ℝ) (h : y ≠ 0) : Ideal.div x y = ((x / y : ℝ) : EReal) := by
  unfold Ideal.div
  rw [if_neg (by exact_mod_cast h), ← EReal.coe_inv, ← EReal.coe_mul, div_eq_mul_inv]

theorem freq_real (j : ℕ) : ∃ r : ℝ, freq j = r := by
  obtain ⟨B, hB, eB⟩ := K_base
  obtain ⟨t, et⟩ := K_real 1073741824#32 (by decide)
  have e128 : K 1124073472#32 = ((128 : ℝ) : EReal) := by
    rw [show (1124073472#32 : BitVec 32) = BitVec.ofNat 32 (134 * 2 ^ 23) from rfl, K_pow 134 (by omega) (by omega)]
    norm_num
  have ei : int (BitVec.ofNat 32 j) = (((BitVec.ofNat 32 j).toInt : ℝ) : EReal) := rfl
  unfold freq
  rw [eB, et, e128, ei, ← EReal.coe_mul, div_real _ _ (by norm_num)]
  refine ⟨1 / Real.rpow B (t * ((BitVec.ofNat 32 j).toInt : ℝ) / 128), ?_⟩
  exact div_real 1 _ (ne_of_gt (Real.rpow_pos_of_pos hB _))

theorem angle_real (p : BitVec 32) (j : ℕ) : ∃ r : ℝ, angle p j = r := by
  obtain ⟨f, ef⟩ := freq_real j
  exact ⟨(p.toInt : ℝ) * f, by unfold angle; rw [ef, EReal.coe_mul]; rfl⟩

theorem rest_real {a : EReal} (h : ∃ r : ℝ, a = r) : ∃ r : ℝ, rest a = r := by
  obtain ⟨r, rfl⟩ := h
  obtain ⟨c0, e0⟩ := K_real 1059256707#32 (by decide)
  obtain ⟨c1, e1⟩ := K_real 1070137344#32 (by decide)
  obtain ⟨c2, e2⟩ := K_real 972922880#32 (by decide)
  obtain ⟨c3, e3⟩ := K_real 866263401#32 (by decide)
  unfold rest turns
  rw [e0, e1, e2, e3, ← EReal.coe_mul, Ideal.liftRound_coe]
  simp only [← EReal.coe_mul, ← EReal.coe_sub]
  exact ⟨_, rfl⟩

/-! ## The polynomials -/

/-- The cosine's polynomial in the square, the first two terms apart. -/
theorem cosPoly_eq {x : EReal} (h : ∃ r : ℝ, x = r) :
    1 - K 1056964608#32 * (x * x) + x * x * (x * x) * (K 1026206373#32 + x * x * (K 3132491290#32 + x * x * K 936179150#32)) = cosPoly x := by
  obtain ⟨r, rfl⟩ := h
  obtain ⟨c1, e1⟩ := K_real 1026206373#32 (by decide)
  obtain ⟨c2, e2⟩ := K_real 3132491290#32 (by decide)
  obtain ⟨c3, e3⟩ := K_real 936179150#32 (by decide)
  unfold cosPoly
  rw [K_half, K_neg_half, e1, e2, e3]
  simp only [← EReal.coe_mul, ← EReal.coe_add, ← EReal.coe_sub, ← EReal.coe_one]
  congr 1
  ring

/-- The sine's polynomial, the first term apart. -/
theorem sinPoly_eq {x : EReal} (h : ∃ r : ℝ, x = r) :
    x + x * (x * x) * (K 3190467235#32 + x * x * (K 1007190942#32 + x * x * K 3108807161#32)) = sinPoly x := by
  obtain ⟨r, rfl⟩ := h
  obtain ⟨c1, e1⟩ := K_real 3190467235#32 (by decide)
  obtain ⟨c2, e2⟩ := K_real 1007190942#32 (by decide)
  obtain ⟨c3, e3⟩ := K_real 3108807161#32 (by decide)
  unfold sinPoly
  rw [e1, e2, e3]
  simp only [← EReal.coe_mul, ← EReal.coe_add, ← EReal.coe_one]
  congr 1
  ring

/-! ## The quadrants -/

theorem and_three (q : BitVec 32) : IntOp.andi q 3#32 = BitVec.ofNat 32 (q.toNat % 4) := by
  apply BitVec.eq_of_toNat_eq
  show (q &&& 3#32).toNat = _
  rw [BitVec.toNat_and, show (3#32 : BitVec 32).toNat = 2 ^ 2 - 1 from rfl, Nat.and_two_pow_sub_one_eq_mod, BitVec.toNat_ofNat]
  omega

theorem and_one (q : BitVec 32) : IntOp.andi q 1#32 = BitVec.ofNat 32 (q.toNat % 2) := by
  apply BitVec.eq_of_toNat_eq
  show (q &&& 1#32).toNat = _
  rw [BitVec.toNat_and, show (1#32 : BitVec 32).toNat = 2 ^ 1 - 1 from rfl, Nat.and_two_pow_sub_one_eq_mod, BitVec.toNat_ofNat]
  omega

theorem and_two (q : BitVec 32) : IntOp.andi q 2#32 = BitVec.ofNat 32 (2 * (q.toNat / 2 % 2)) := by
  apply BitVec.eq_of_toNat_eq
  show (q &&& 2#32).toNat = _
  rw [BitVec.toNat_and, show (2#32 : BitVec 32).toNat = 2 ^ 1 from rfl, Nat.and_two_pow, BitVec.toNat_ofNat, Nat.testBit_eq_decide_div_mod_eq]
  have : q.toNat / 2 % 2 = 0 ∨ q.toNat / 2 % 2 = 1 := by omega
  rcases this with h | h <;> simp [h]

theorem and_next (q : BitVec 32) : IntOp.andi (IntOp.addi q 1#32) 2#32 = BitVec.ofNat 32 (2 * ((q.toNat + 1) / 2 % 2)) := by
  rw [and_two]
  have : (IntOp.addi q 1#32).toNat = (q.toNat + 1) % 2 ^ 32 := BitVec.toNat_add q 1#32
  rw [this]
  congr 2
  omega

/-- The cosine by the parity of the quarter turns and the sign bit of one more. -/
theorem cos_quadrant (q : BitVec 32) (C S : EReal) :
    Scalar.select (IntOp.cmpi .ne (IntOp.andi (IntOp.addi q 1#32) 2#32) 0#32)
      (0 - Scalar.select (IntOp.cmpi .eq (IntOp.andi q 1#32) 1#32) S C) (Scalar.select (IntOp.cmpi .eq (IntOp.andi q 1#32) 1#32) S C) =
    Scalar.select (IntOp.cmpi .eq (IntOp.andi q 3#32) 0#32) C
      (Scalar.select (IntOp.cmpi .eq (IntOp.andi q 3#32) 1#32) (-S)
        (Scalar.select (IntOp.cmpi .eq (IntOp.andi q 3#32) 2#32) (-C) S)) := by
  rw [and_three, and_one, and_next, sub_eq_add_neg, zero_add]
  have : q.toNat % 4 = 0 ∨ q.toNat % 4 = 1 ∨ q.toNat % 4 = 2 ∨ q.toNat % 4 = 3 := by omega
  rcases this with h | h | h | h
  · rw [h, show q.toNat % 2 = 0 by omega, show (q.toNat + 1) / 2 % 2 = 0 by omega]; rfl
  · rw [h, show q.toNat % 2 = 1 by omega, show (q.toNat + 1) / 2 % 2 = 1 by omega]; rfl
  · rw [h, show q.toNat % 2 = 0 by omega, show (q.toNat + 1) / 2 % 2 = 1 by omega]; rfl
  · rw [h, show q.toNat % 2 = 1 by omega, show (q.toNat + 1) / 2 % 2 = 0 by omega]; rfl

/-- The sine by the parity of the quarter turns and their sign bit. -/
theorem sin_quadrant (q : BitVec 32) (C S : EReal) :
    Scalar.select (IntOp.cmpi .ne (IntOp.andi q 2#32) 0#32)
      (0 - Scalar.select (IntOp.cmpi .eq (IntOp.andi q 1#32) 1#32) C S) (Scalar.select (IntOp.cmpi .eq (IntOp.andi q 1#32) 1#32) C S) =
    Scalar.select (IntOp.cmpi .eq (IntOp.andi q 3#32) 0#32) S
      (Scalar.select (IntOp.cmpi .eq (IntOp.andi q 3#32) 1#32) C
        (Scalar.select (IntOp.cmpi .eq (IntOp.andi q 3#32) 2#32) (-S) (-C))) := by
  rw [and_three, and_one, and_two, sub_eq_add_neg, zero_add]
  have : q.toNat % 4 = 0 ∨ q.toNat % 4 = 1 ∨ q.toNat % 4 = 2 ∨ q.toNat % 4 = 3 := by omega
  rcases this with h | h | h | h
  · rw [h, show q.toNat % 2 = 0 by omega, show q.toNat / 2 % 2 = 0 by omega]; rfl
  · rw [h, show q.toNat % 2 = 1 by omega, show q.toNat / 2 % 2 = 0 by omega]; rfl
  · rw [h, show q.toNat % 2 = 0 by omega, show q.toNat / 2 % 2 = 1 by omega]; rfl
  · rw [h, show q.toNat % 2 = 1 by omega, show q.toNat / 2 % 2 = 1 by omega]; rfl

/-! ## Sums and maxima -/

theorem eq_word : ∀ x b : Fin 4, IntOp.cmpi .eq (BitVec.ofNat 32 x.val) (BitVec.ofNat 32 b.val) = BitVec.ofBool (decide (x = b)) := by
  decide +kernel

/-- A sum over the batches that keeps one batch is that batch's term. -/
theorem one_batch (g : Fin 4 → EReal) (b : Fin 4) :
    ∑ x : Fin 4, Scalar.select (IntOp.cmpi .eq (BitVec.ofNat 32 x.val) (BitVec.ofNat 32 b.val)) (g x) 0 = g b := by
  simp only [eq_word, Scalar.select_ofBool, decide_eq_true_eq]
  rw [Finset.sum_ite_eq' Finset.univ b g, if_pos (Finset.mem_univ b)]

/-- The maximum over the pairs of the greater of a pair is the maximum over all. -/
theorem fold_pairs (B : EReal) (f : Fin 128 → EReal) :
    Finset.fold max B (fun k : Fin 64 => max (f ⟨2 * k.val, by omega⟩) (f ⟨2 * k.val + 1, by omega⟩)) Finset.univ =
      Finset.fold max B f Finset.univ := by
  apply le_antisymm
  · rw [Finset.fold_max_le]
    refine ⟨(Finset.le_fold_max _).mpr (Or.inl le_rfl), fun k _ => max_le ?_ ?_⟩
    · exact (Finset.le_fold_max _).mpr (Or.inr ⟨_, Finset.mem_univ _, le_rfl⟩)
    · exact (Finset.le_fold_max _).mpr (Or.inr ⟨_, Finset.mem_univ _, le_rfl⟩)
  · rw [Finset.fold_max_le]
    refine ⟨(Finset.le_fold_max _).mpr (Or.inl le_rfl), fun e _ => (Finset.le_fold_max _).mpr (Or.inr ⟨⟨e.val / 2, by omega⟩, Finset.mem_univ _, ?_⟩)⟩
    by_cases h : e.val % 2 = 0
    · exact le_max_of_le_left (le_of_eq (congrArg f (Fin.ext (by show e.val = 2 * (e.val / 2); omega))))
    · exact le_max_of_le_right (le_of_eq (congrArg f (Fin.ext (by show e.val = 2 * (e.val / 2) + 1; omega))))

/-! ## The scale by counting thresholds -/

/-- The thresholds `2 ^ -126` to `2 ^ 112`. -/
def threshold (k : Fin 239) : EReal := K (BitVec.ofNat 32 ((k.val + 1) * 2 ^ 23))

/-- How many thresholds `x` has reached. -/
def reached (x : EReal) : ℕ := (Finset.univ.filter fun k : Fin 239 => threshold k ≤ x).card

theorem reached_le (x : EReal) : reached x ≤ 239 := by
  unfold reached
  exact (Finset.card_filter_le _ _).trans (by simp)

theorem threshold_mono {a b : Fin 239} (h : a ≤ b) : threshold a ≤ threshold b := by
  have : a.val ≤ b.val := h
  exact K_mono (by omega) (by omega) (by omega)

/-- The thresholds reached are the first ones. -/
theorem threshold_le_iff (x : EReal) (k : Fin 239) : threshold k ≤ x ↔ k.val < reached x := by
  constructor
  · intro h
    have hs : Finset.Iic k ⊆ Finset.univ.filter fun j : Fin 239 => threshold j ≤ x := fun j hj =>
      Finset.mem_filter.mpr ⟨Finset.mem_univ _, (threshold_mono (Finset.mem_Iic.mp hj)).trans h⟩
    have := Finset.card_le_card hs
    rw [Fin.card_Iic] at this
    exact this
  · intro h
    by_contra hn
    have hs : (Finset.univ.filter fun j : Fin 239 => threshold j ≤ x) ⊆ Finset.Iio k := fun j hj => by
      rw [Finset.mem_Iio]
      by_contra hk
      exact hn ((threshold_mono (not_lt.mp hk)).trans (Finset.mem_filter.mp hj).2)
    have := Finset.card_le_card hs
    rw [Fin.card_Iio] at this
    exact absurd h (by unfold reached; omega)

/-- The count as a word. -/
theorem fold_count (p : Fin 239 → Prop) [DecidablePred p] (s : Finset (Fin 239)) :
    Finset.fold IntOp.addi 0#32 (fun k => if p k then 1#32 else 0#32) s = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (fun hm => ha (Finset.mem_filter.mp hm).1)]
      show 1#32 + BitVec.ofNat 32 _ = _
      rw [← BitVec.ofNat_add, Nat.add_comm]
    · rw [if_neg h, if_neg h]
      show 0#32 + _ = _
      rw [BitVec.zero_add]

/-- The word of the scale from the count. -/
def scaleWord (n : BitVec 32) : BitVec 32 :=
  Scalar.select (IntOp.cmpi .sge (IntOp.shli .vector (IntOp.addi 16#32 n) 23#32) 142606336#32)
    (IntOp.subi (IntOp.shli .vector (IntOp.addi 16#32 n) 23#32) 125829120#32) 1065353216#32

theorem scaleWord_eq : ∀ c : Fin 240, scaleWord (BitVec.ofNat 32 c.val) = BitVec.ofNat 32 ((if c.val = 0 then 127 else c.val + 1) * 2 ^ 23) := by
  decide +kernel

theorem inverseWord_eq : ∀ c : Fin 240, IntOp.subi 2130706432#32 (scaleWord (BitVec.ofNat 32 c.val)) =
    BitVec.ofNat 32 ((254 - (if c.val = 0 then 127 else c.val + 1)) * 2 ^ 23) := by
  decide +kernel

theorem threshold_word : ∀ k : Fin 239, IntOp.shli .vector (IntOp.addi (BitVec.ofNat 32 k.val) 1#32) 23#32 = BitVec.ofNat 32 ((k.val + 1) * 2 ^ 23) := by
  decide +kernel

/-- The least power of two above `x`, from the count. -/
theorem above_eq (x : EReal) (h : 1 ≤ reached x) : above x = K (BitVec.ofNat 32 ((reached x + 1) * 2 ^ 23)) := by
  have hc := reached_le x
  have hf : K 2013265920#32 = K (BitVec.ofNat 32 (240 * 2 ^ 23)) := rfl
  unfold above power
  apply le_antisymm
  · rw [Finset.fold_min_le]
    refine Or.inr ⟨⟨reached x - 1, by omega⟩, Finset.mem_univ _, ?_⟩
    have e : reached x - 1 + 2 = reached x + 1 := by omega
    dsimp only
    rw [e]
    split
    · exact le_rfl
    · rename_i hn
      have h239 : reached x = 239 := by
        by_contra h9
        have := (threshold_le_iff x ⟨reached x, by omega⟩).mp (not_lt.mp hn)
        exact absurd this (lt_irrefl _)
      rw [h239]; exact le_of_eq hf
  · rw [Finset.le_fold_min]
    refine ⟨by rw [K_top]; exact le_top, fun k _ => ?_⟩
    split
    · rename_i hk
      refine K_mono (by omega) ?_ (by omega)
      by_cases h8 : k.val = 238
      · omega
      · have hn : ¬ threshold ⟨k.val + 1, by omega⟩ ≤ x := not_le.mpr hk
        rw [threshold_le_iff] at hn
        have : ¬ (k.val + 1 < reached x) := hn
        omega
    · rw [hf]; exact K_mono (by omega) (by omega) (by omega)

/-- The scale is the value of its word. -/
theorem scale_eq (x : EReal) : K (scaleWord (BitVec.ofNat 32 (reached x))) = scale x := by
  have hc := reached_le x
  rw [scaleWord_eq ⟨reached x, by omega⟩]
  unfold scale
  have h0 := threshold_le_iff x ⟨0, by omega⟩
  have ht : threshold ⟨0, by omega⟩ = K 8388608#32 :=
    congrArg K (show BitVec.ofNat 32 ((0 + 1) * 2 ^ 23) = 8388608#32 by decide)
  rw [ht] at h0
  by_cases h : reached x = 0
  · rw [if_pos (not_le.mp fun hl => absurd (h0.mp hl) (by show ¬ (0 < reached x); omega))]
    show K (BitVec.ofNat 32 ((if reached x = 0 then 127 else reached x + 1) * 2 ^ 23)) = 1
    rw [if_pos h, K_pow 127 (by omega) (by omega)]
    norm_num
  · rw [if_neg (not_lt.mpr (h0.mpr (by show 0 < reached x; omega))), above_eq x (by omega)]
    show K (BitVec.ofNat 32 ((if reached x = 0 then 127 else reached x + 1) * 2 ^ 23)) = _
    rw [if_neg h]

/-- The reciprocal of the scale is the value of the word with the mirrored exponent. -/
theorem inverse_eq (x : EReal) : K (IntOp.subi 2130706432#32 (scaleWord (BitVec.ofNat 32 (reached x)))) = Ideal.div 1 (scale x) := by
  have hc := reached_le x
  rw [← scale_eq, inverseWord_eq ⟨reached x, by omega⟩, scaleWord_eq ⟨reached x, by omega⟩]
  have he : ∀ e : ℕ, 1 ≤ e → e ≤ 240 → K (BitVec.ofNat 32 ((254 - e) * 2 ^ 23)) = Ideal.div 1 (K (BitVec.ofNat 32 (e * 2 ^ 23))) := by
    intro e h1 h2
    rw [K_pow _ (by omega) (by omega), K_pow e h1 (by omega), ← EReal.coe_one, div_real _ _ (by positivity), one_div, ← zpow_neg]
    congr 2
    omega
  apply he
  · dsimp only; split <;> omega
  · dsimp only; split <;> omega

end Cert.Spec
-- ==== Proof.TileValue.lean ====
/- What one tile holds over the extended reals: the rotated head vectors, their scales, their codes. -/
module

public import proofs.«01_k».proof.Proof.Tile
public import proofs.«01_k».proof.Proof.Scalars

@[expose] public section

set_option maxRecDepth 16384

noncomputable section

namespace Cert.KernelIdeal.Tile

open Idealize.ShloMosaic Idealize.SL.Sem Cert.KernelIdeal.Gen Idealize.ShloMosaic.TcCoe

/-! ## The angles, their cosines and sines -/

section Angle

variable (i : grid0.Coords) (f : Vec Ideal S64x128 .f32) (p : Vec Ideal S4x128 .i32)

/-- The batch of a grid point. -/
abbrev batch : Fin 4 := i 0

/-- The angle: the position of the point's batch times the frequency. -/
theorem angle_at (k : Fin 64) (l : Fin 128) {j : ℕ} (hf : f (ix2 k l) = Spec.freq j) :
    k0_pay62 i f p (ix2 k l) = Spec.angle (p (ix2 (batch i) l)) j := by
  pointwise [k0_pay62, k0_pay61]
  rw [hf]
  exact congrArg (fun x : EReal => x * Spec.freq j) (Spec.one_batch (fun x => Spec.int (p (ix2 x l))) (batch i))

theorem turns_at (k : Fin 64) (l : Fin 128) : k0_pay63 i f p (ix2 k l) = Spec.turns (k0_pay62 i f p (ix2 k l)) := by
  pointwise [k0_pay63]
  all_goals rfl

theorem rest_at (k : Fin 64) (l : Fin 128) : k0_pay64 i f p (ix2 k l) = Spec.rest (k0_pay62 i f p (ix2 k l)) := by
  pointwise [k0_pay64]
  rw [turns_at]
  all_goals rfl

theorem cosT_at (k : Fin 64) (l : Fin 128) {j : ℕ} (hf : f (ix2 k l) = Spec.freq j) :
    cosT i f p (ix2 k l) = Spec.cosA (Spec.angle (p (ix2 (batch i) l)) j) := by
  have hr := Spec.rest_real (Spec.angle_real (p (ix2 (batch i) l)) j)
  unfold Spec.cosA
  rw [← Spec.cos_quadrant, ← Spec.cosPoly_eq hr, ← Spec.sinPoly_eq hr]
  unfold Spec.word
  rw [← angle_at i f p k l hf]
  rw [← rest_at, ← turns_at]
  pointwise [cosT, k0_pay70, k0_pay69, k0_pay68, k0_pay67, k0_pay66, k0_pay65]

theorem sinT_at (k : Fin 64) (l : Fin 128) {j : ℕ} (hf : f (ix2 k l) = Spec.freq j) :
    sinT i f p (ix2 k l) = Spec.sinA (Spec.angle (p (ix2 (batch i) l)) j) := by
  have hr := Spec.rest_real (Spec.angle_real (p (ix2 (batch i) l)) j)
  unfold Spec.sinA
  rw [← Spec.sin_quadrant, ← Spec.cosPoly_eq hr, ← Spec.sinPoly_eq hr]
  unfold Spec.word
  rw [← angle_at i f p k l hf]
  rw [← rest_at, ← turns_at]
  pointwise [sinT, k0_pay71, k0_pay69, k0_pay68, k0_pay67, k0_pay66, k0_pay65]

end Angle

/-! ## The halves -/

theorem evenIn_at (g : Vec Ideal S1x1x128x128 .bf16) (k : Fin 64) (l : Fin 128) : evenIn g (ix2 k l) = g (ix4 0 0 l ⟨2 * k.val, by omega⟩) := by
  pointwise [evenIn, k0_pay75, k0_pay73, k0_pay72]

theorem oddIn_at (g : Vec Ideal S1x1x128x128 .bf16) (k : Fin 64) (l : Fin 128) : oddIn g (ix2 k l) = g (ix4 0 0 l ⟨2 * k.val + 1, by omega⟩) := by
  pointwise [oddIn, k0_pay76, k0_pay74, k0_pay72]

theorem evenOut_at (C S : FVec Ideal S64x128 .f32) (g : Vec Ideal S1x1x128x128 .bf16) (k : Fin 64) (l : Fin 128) {a : EReal}
    (hC : C (ix2 k l) = Spec.cosA a) (hS : S (ix2 k l) = Spec.sinA a) :
    evenOut C S g (ix2 k l) = Spec.rotE a (g (ix4 0 0 l ⟨2 * k.val, by omega⟩)) (g (ix4 0 0 l ⟨2 * k.val + 1, by omega⟩)) := by
  unfold Spec.rotE
  rw [← hC, ← hS, ← evenIn_at g k l, ← oddIn_at g k l]
  pointwise [evenOut]

theorem oddOut_at (C S : FVec Ideal S64x128 .f32) (g : Vec Ideal S1x1x128x128 .bf16) (k : Fin 64) (l : Fin 128) {a : EReal}
    (hC : C (ix2 k l) = Spec.cosA a) (hS : S (ix2 k l) = Spec.sinA a) :
    oddOut C S g (ix2 k l) = Spec.rotO a (g (ix4 0 0 l ⟨2 * k.val, by omega⟩)) (g (ix4 0 0 l ⟨2 * k.val + 1, by omega⟩)) := by
  unfold Spec.rotO
  rw [← hC, ← hS, ← evenIn_at g k l, ← oddIn_at g k l]
  pointwise [oddOut]

/-! ## The scale and the codes of a tile whose halves are a head vector's -/

section Quantise

variable (e o : FVec Ideal S64x128 .f32) (l : Fin 128) (x : Fin 128 → EReal)

/-- The tile's halves at token `l` are the even and odd entries of `x`. -/
def Halves : Prop := ∀ k : Fin 64, e (ix2 k l) = x ⟨2 * k.val, by omega⟩ ∧ o (ix2 k l) = x ⟨2 * k.val + 1, by omega⟩

variable {e o l x}

theorem amax_at (h : Halves e o l x) : amax e o (ix2 0 l) = Spec.peak x := by
  unfold Spec.peak
  rw [← Spec.fold_pairs]
  pointwise [amax]
  simp only [(h _).1, (h _).2]
  all_goals rfl

theorem word_at (v : FVec Ideal S1x128 .f32) (l : Fin 128) :
    k0_pay178 v k0_pay176 k0_pay177 (ix2 0 l) = Spec.scaleWord (BitVec.ofNat 32 (Spec.reached (v (ix2 0 l)))) := by
  have hc := Spec.fold_count (fun k => Spec.threshold k ≤ v (ix2 0 l)) Finset.univ
  unfold Spec.scaleWord Spec.reached
  rw [← hc]
  unfold Spec.threshold
  simp only [← Spec.threshold_word]
  pointwise [k0_pay178, k0_pay176, k0_pay177]

theorem scaleRow_at (h : Halves e o l x) : scaleRow e o (ix2 0 l) = Spec.scale (Spec.peak x) := by
  rw [← amax_at h, ← Spec.scale_eq, ← word_at]
  pointwise [scaleRow, scaleWord]

theorem inter_at (h : Halves e o l x) (n : Fin 128) : inter e o (ix3 0 n l) = x n := by
  unfold inter
  by_cases hp : n.val % 2 = 0
  · refine (if_pos hp).trans (((h ⟨n.val / 2, by omega⟩).1).trans (congrArg x (Fin.ext ?_)))
    show 2 * (n.val / 2) = n.val; omega
  · refine (if_neg hp).trans (((h ⟨n.val / 2, by omega⟩).2).trans (congrArg x (Fin.ext ?_)))
    show 2 * (n.val / 2) + 1 = n.val; omega

theorem clipped_at (h : Halves e o l x) (n : Fin 128) :
    k0_pay180 (amax e o) k0_pay176 k0_pay177 (inter e o) (ix2 n l) = Spec.code (x n) (Spec.scale (Spec.peak x)) := by
  unfold Spec.code
  rw [← inter_at h, ← amax_at h, ← Spec.inverse_eq, ← word_at]
  pointwise [k0_pay180]

theorem codeTile_at (h : Halves e o l x) (n : Fin 128) :
    codeTile e o (inter e o) (ix3 0 l n) = Spec.code (x n) (Spec.scale (Spec.peak x)) := by
  rw [← clipped_at h]
  pointwise [codeTile, k0_pay183, k0_pay182]

theorem gTile_at (h : Halves e o l x) (n : Fin 128) :
    gTile e o (inter e o) (ix2 n l) = Spec.code (x n) (Spec.scale (Spec.peak x)) * Spec.scale (Spec.peak x) := by
  rw [← clipped_at h, ← scaleRow_at h]
  pointwise [gTile, k0_pay181, k0_pay179, scaleRow, scaleWord]

end Quantise

/-! ## The weights and the product -/

theorem pay3_at (s : Elt Ideal .f32) (g : Vec Ideal S128x128 .fp8e4m3) (k l : Fin 128) : k0_pay3 s g (ix2 k l) = (show EReal from g (ix2 k l)) * s := by
  pointwise [k0_pay3]

theorem pay2_at (w : Vec Ideal S768x1024 .bf16) (g : Vec Ideal S1024x512 .bf16) (s : Fin 512) (d : Fin 768) :
    k0_pay2 w g (ix3 0 s d) = ∑ n : Fin 1024, (show EReal from w (ix2 d n)) * (show EReal from g (ix2 n s)) := by
  pointwise [k0_pay2]

end Cert.KernelIdeal.Tile
-- ==== Proof.BlockValue.lean ====
/- What the blocks of one grid point hold over the extended reals, from the blocks it loads. -/
module

public import proofs.«01_k».proof.Proof.TileValue

@[expose] public section

set_option maxRecDepth 16384

noncomputable section

namespace Cert.KernelIdeal.Tile

open Idealize.ShloMosaic Idealize.SL.Sem Cert.KernelIdeal.Gen Idealize.ShloMosaic.TcCoe

variable (i : grid0.Coords) (x0 : Vec Ideal S1x6x512x128 .bf16) (x1 x2 : Vec Ideal S1x1x512x128 .bf16) (x3 : Vec Ideal S4x512 .i32)
  (x4 : Vec Ideal S64x128 .f32)

/-- The eight head vectors of token `n` of the block. -/
def vecs (n : Fin 512) : Fin 8 → Fin 128 → EReal :=
  Spec.head (x3 (ix2 (batch i) n)) (fun h e => x0 (ix4 0 h n e)) (fun e => x1 (ix4 0 0 n e)) (fun e => x2 (ix4 0 0 n e))

theorem token_eq (n : Fin 512) : 128 * (chunkOf n).val + (lane n).val = n.val := by
  show 128 * (n.val / 128) + n.val % 128 = n.val; omega

theorem posAt_at (n : Fin 512) (b : Fin 4) : posAt x3 (chunkOf n) (ix2 b (lane n)) = x3 (ix2 b n) := by
  refine congrArg x3 (funext fun a => ?_)
  have := token_eq n
  fin_cases a
  · exact Fin.ext (by show 0 + 1 * b.val = b.val; omega)
  · exact Fin.ext (by show 128 * (chunkOf n).val + 1 * (lane n).val = n.val; omega)

theorem headAt_q (n : Fin 512) (h : Fin 8) (hq : h.val < 6) (e : Fin 128) :
    headAt x0 x1 x2 (chunkOf n) h (ix4 0 0 (lane n) e) = x0 (ix4 0 ⟨h.val, hq⟩ n e) := by
  unfold headAt
  rw [dif_pos hq]
  refine congrArg x0 (funext fun a => ?_)
  have := token_eq n
  fin_cases a
  · exact Fin.ext (by show 0 + 1 * 0 = 0; omega)
  · exact Fin.ext (by show h.val + 1 * 0 = h.val; omega)
  · exact Fin.ext (by show 128 * (chunkOf n).val + 1 * (lane n).val = n.val; omega)
  · exact Fin.ext (by show 0 + 1 * e.val = e.val; omega)

theorem one_at (x : Vec Ideal S1x1x512x128 .bf16) (n : Fin 512) (e : Fin 128) :
    View.ld x (Rect.unit ![0, 0, 128 * (chunkOf n).val, 0] S1x1x128x128.size (oneInb (chunkOf n))) (ix4 0 0 (lane n) e) = x (ix4 0 0 n e) := by
  refine congrArg x (funext fun a => ?_)
  have := token_eq n
  fin_cases a
  · exact Fin.ext (by show 0 + 1 * 0 = 0; omega)
  · exact Fin.ext (by show 0 + 1 * 0 = 0; omega)
  · exact Fin.ext (by show 128 * (chunkOf n).val + 1 * (lane n).val = n.val; omega)
  · exact Fin.ext (by show 0 + 1 * e.val = e.val; omega)

theorem headAt_k (n : Fin 512) (h : Fin 8) (hk : h.val = 6) (e : Fin 128) :
    headAt x0 x1 x2 (chunkOf n) h (ix4 0 0 (lane n) e) = x1 (ix4 0 0 n e) := by
  unfold headAt
  rw [dif_neg (by omega), if_pos hk]
  exact one_at x1 n e

theorem headAt_v (n : Fin 512) (h : Fin 8) (hv : h.val = 7) (e : Fin 128) :
    headAt x0 x1 x2 (chunkOf n) h (ix4 0 0 (lane n) e) = x2 (ix4 0 0 n e) := by
  unfold headAt
  rw [dif_neg (by omega), if_neg (by omega)]
  exact one_at x2 n e

/-- The two entries of a pair rotated back. -/
theorem back_even (p : BitVec 32) (g : Fin 128 → EReal) (k : Fin 64) :
    Spec.back p g ⟨2 * k.val, by omega⟩ = Spec.rotE (Spec.angle p k.val) (g ⟨2 * k.val, by omega⟩) (g ⟨2 * k.val + 1, by omega⟩) := by
  unfold Spec.back
  have h1 : 2 * k.val / 2 = k.val := by omega
  rw [if_pos (show 2 * k.val % 2 < 1 by omega)]
  simp only [h1, Nat.mul_comm k.val 2]

theorem back_odd (p : BitVec 32) (g : Fin 128 → EReal) (k : Fin 64) :
    Spec.back p g ⟨2 * k.val + 1, by omega⟩ = Spec.rotO (Spec.angle p k.val) (g ⟨2 * k.val, by omega⟩) (g ⟨2 * k.val + 1, by omega⟩) := by
  unfold Spec.back
  have h1 : (2 * k.val + 1) / 2 = k.val := by omega
  rw [if_neg (show ¬ (2 * k.val + 1) % 2 < 1 by omega)]
  simp only [h1, Nat.mul_comm k.val 2]

variable {x4}

/-- The tile of head `h` at the chunk of token `n` holds the halves of the token's head vector. -/
theorem halves_at (hf : ∀ (k : Fin 64) (l : Fin 128), x4 (ix2 k l) = Spec.freq k.val) (n : Fin 512) (h : Fin 8) :
    Halves (evenAt i x0 x1 x2 x3 x4 (chunkOf n) h) (oddAt i x0 x1 x2 x3 x4 (chunkOf n) h) (lane n) (vecs i x0 x1 x2 x3 n h) := by
  intro k
  have hC := cosT_at i x4 (posAt x3 (chunkOf n)) k (lane n) (hf k (lane n))
  have hS := sinT_at i x4 (posAt x3 (chunkOf n)) k (lane n) (hf k (lane n))
  rw [posAt_at] at hC hS
  have h8 := h.isLt
  unfold evenAt oddAt vecs Spec.head
  by_cases h7 : h.val = 7
  · rw [if_pos h7, if_pos h7, dif_neg (by omega), if_neg (by omega), dif_neg (by omega), if_neg (by omega)]
    rw [evenIn_at, oddIn_at, headAt_v x0 x1 x2 n h h7, headAt_v x0 x1 x2 n h h7]
    exact ⟨rfl, rfl⟩
  · rw [if_neg h7, if_neg h7]
    by_cases h6 : h.val < 6
    · rw [dif_pos h6, dif_pos h6, back_even, back_odd, evenOut_at _ _ _ k (lane n) hC hS, oddOut_at _ _ _ k (lane n) hC hS]
      rw [headAt_q x0 x1 x2 n h h6, headAt_q x0 x1 x2 n h h6]
      exact ⟨rfl, rfl⟩
    · rw [dif_neg h6, dif_neg h6, if_pos (by omega), if_pos (by omega), back_even, back_odd, evenOut_at _ _ _ k (lane n) hC hS, oddOut_at _ _ _ k (lane n) hC hS]
      rw [headAt_k x0 x1 x2 n h (by omega), headAt_k x0 x1 x2 n h (by omega)]
      exact ⟨rfl, rfl⟩

theorem codes_val (hf : ∀ (k : Fin 64) (l : Fin 128), x4 (ix2 k l) = Spec.freq k.val) (n : Fin 512) (j : Fin 1024) :
    codes i x0 x1 x2 x3 x4 (ix3 0 n j) =
      Spec.code (vecs i x0 x1 x2 x3 n (headOf j) (lane j)) (Spec.scale (Spec.peak (vecs i x0 x1 x2 x3 n (headOf j)))) :=
  codeTile_at (halves_at i x0 x1 x2 x3 hf n (headOf j)) (lane j)

theorem scales_val (hf : ∀ (k : Fin 64) (l : Fin 128), x4 (ix2 k l) = Spec.freq k.val) (n : Fin 512) (h : Fin 8) :
    scales i x0 x1 x2 x3 x4 (ix3 0 h n) = Spec.scale (Spec.peak (vecs i x0 x1 x2 x3 n h)) :=
  scaleRow_at (halves_at i x0 x1 x2 x3 hf n h)

theorem grad_val (hf : ∀ (k : Fin 64) (l : Fin 128), x4 (ix2 k l) = Spec.freq k.val) (n : Fin 512) (j : Fin 1024) :
    grad i x0 x1 x2 x3 x4 (ix2 j n) =
      Spec.code (vecs i x0 x1 x2 x3 n (headOf j) (lane j)) (Spec.scale (Spec.peak (vecs i x0 x1 x2 x3 n (headOf j)))) *
        Spec.scale (Spec.peak (vecs i x0 x1 x2 x3 n (headOf j))) :=
  gTile_at (halves_at i x0 x1 x2 x3 hf n (headOf j)) (lane j)

theorem weight_val (x5 : Vec Ideal S768x1024 .fp8e4m3) (x6 : Vec Ideal S6x8 .f32) (d : Fin 768) (j : Fin 1024) :
    weight x5 x6 (ix2 d j) = (show EReal from x5 (ix2 d j)) * x6 (ix2 (wRow d) (headOf j)) := by
  refine (pay3_at _ _ (lane d) (lane j)).trans (congrArg (fun y : EReal => y * x6 (ix2 (wRow d) (headOf j))) ?_)
  refine congrArg x5 (funext fun a => ?_)
  fin_cases a
  · exact Fin.ext (by show 128 * (d.val / 128) + 1 * (d.val % 128) = d.val; omega)
  · exact Fin.ext (by show 128 * (j.val / 128) + 1 * (j.val % 128) = j.val; omega)

/-- The block of the product: the dot products of the tokens' dequantised codes with the dequantised weights. -/
theorem dx_val (hf : ∀ (k : Fin 64) (l : Fin 128), x4 (ix2 k l) = Spec.freq k.val) (x5 : Vec Ideal S768x1024 .fp8e4m3) (x6 : Vec Ideal S6x8 .f32)
    (n : Fin 512) (d : Fin 768) :
    k0_pay2 (weight x5 x6) (grad i x0 x1 x2 x3 x4) (ix3 0 n d) =
      Spec.dot (vecs i x0 x1 x2 x3 n) (fun j => x5 (ix2 d j)) (fun h => x6 (ix2 (wRow d) h)) := by
  refine (pay2_at _ _ n d).trans (Finset.sum_congr rfl fun j _ => ?_)
  refine (congrArg₂ (fun a b : EReal => a * b) (weight_val x5 x6 d j) (grad_val i x0 x1 x2 x3 hf n j)).trans ?_
  exact mul_comm (G := EReal) _ _

end Cert.KernelIdeal.Tile
-- ==== Proof.KernelReads.lean ====
/- What each block a grid point loads holds, in terms of the kernel's arguments. -/
module

public import proofs.«01_k».proof.Proof.Blocks
public import proofs.«01_k».proof.Proof.BlockValue
public import Idealize.ShloMosaic.Lib.StableHlo.ReadAt
public import Idealize.ShloMosaic.Lib.Pipeline.ValueKit

@[expose] public section

set_option maxRecDepth 16384

noncomputable section

namespace Cert.KernelIdeal.Tile

open Idealize.ShloMosaic Idealize.SL.Sem Cert.KernelIdeal.Gen Idealize.ShloMosaic.TcCoe
open Idealize.ShloMosaic.StableHlo Idealize.ShloMosaic.Pipeline

variable (m : (ℓ : Loc nD τ sig) → Buf (Elt Ideal) ℓ) (c : Dev nD)

/-! ## The call's operands -/

theorem freq_in (k : Fin 64) (l : Fin 128) : (V m c main_v12 : FVec Ideal S64x128 .f32) (ix2 k l) = (Spec.freq k.val : EReal) := by
  unfold V V0
  simp only [hostOps0, List.flatten_cons, List.flatten_nil, List.cons_append, List.nil_append, List.append_nil]
  after_reads_at
  all_goals rfl

theorem q_in (b : Fin 4) (h : Fin 6) (s : Fin 4096) (e : Fin 128) :
    (V m c main_v13 : FVec Ideal S4x6x4096x128 .bf16) (ix4 b h s e) = (m ((c : Thread nD τ).loc main_arg0) : FVec Ideal S4x4096x6x128 .bf16) (ix4 b s h e) := by
  unfold V V0
  simp only [hostOps0, List.flatten_cons, List.flatten_nil, List.cons_append, List.nil_append, List.append_nil]
  after_reads_at
  all_goals rfl

theorem k_in (b : Fin 4) (s : Fin 4096) (e : Fin 128) :
    (V m c main_v14 : FVec Ideal S4x1x4096x128 .bf16) (ix4 b 0 s e) = (m ((c : Thread nD τ).loc main_arg1) : FVec Ideal S4x4096x1x128 .bf16) (ix4 b s 0 e) := by
  unfold V V0
  simp only [hostOps0, List.flatten_cons, List.flatten_nil, List.cons_append, List.nil_append, List.append_nil]
  after_reads_at
  all_goals rfl

theorem v_in (b : Fin 4) (s : Fin 4096) (e : Fin 128) :
    (V m c main_v15 : FVec Ideal S4x1x4096x128 .bf16) (ix4 b 0 s e) = (m ((c : Thread nD τ).loc main_arg2) : FVec Ideal S4x4096x1x128 .bf16) (ix4 b s 0 e) := by
  unfold V V0
  simp only [hostOps0, List.flatten_cons, List.flatten_nil, List.cons_append, List.nil_append, List.append_nil]
  after_reads_at
  all_goals rfl

/-! ## The place of a grid point's blocks -/

/-- The batch of grid point `t`. -/
def bOf (t : Fin cfg0.N) : Fin 4 := ⟨t.val / 8, by have := lt_of_lt_of_eq t.isLt (show cfg0.N = 32 from N_0); omega⟩

/-- The token at place `n` of the blocks of grid point `t`. -/
def sOf (t : Fin cfg0.N) (n : Fin 512) : Fin 4096 := ⟨t.val % 8 * 512 + n.val, by omega⟩

theorem coords_val (t : Fin cfg0.N) : batch (grid0.coords t) = bOf t :=
  Fin.ext ((by decide +kernel : ∀ t : Fin grid0.N, (grid0.coords t 0).val = t.val / 8) t)

theorem emb0 (t : Fin cfg0.N) (y : S1x6x512x128.Idx) : ((cfg0.win 0).blk t).view.emb y = ix4 (bOf t) (y 1) (sOf t (y 2)) (y 3) := by
  have h := (by decide +kernel : ∀ t : Fin grid0.N, win0_0.index t 0 = t.val / 8 ∧ win0_0.index t 1 = 0 ∧ win0_0.index t 2 = t.val % 8 ∧ win0_0.index t 3 = 0) t
  blk_ext [h.1, h.2.1, h.2.2.1, h.2.2.2, bOf, sOf]

theorem emb1 (t : Fin cfg0.N) (y : S1x1x512x128.Idx) : ((cfg0.win 1).blk t).view.emb y = ix4 (bOf t) (y 1) (sOf t (y 2)) (y 3) := by
  have h := (by decide +kernel : ∀ t : Fin grid0.N, win0_1.index t 0 = t.val / 8 ∧ win0_1.index t 1 = 0 ∧ win0_1.index t 2 = t.val % 8 ∧ win0_1.index t 3 = 0) t
  blk_ext [h.1, h.2.1, h.2.2.1, h.2.2.2, bOf, sOf]

theorem emb2 (t : Fin cfg0.N) (y : S1x1x512x128.Idx) : ((cfg0.win 2).blk t).view.emb y = ix4 (bOf t) (y 1) (sOf t (y 2)) (y 3) := by
  have h := (by decide +kernel : ∀ t : Fin grid0.N, win0_2.index t 0 = t.val / 8 ∧ win0_2.index t 1 = 0 ∧ win0_2.index t 2 = t.val % 8 ∧ win0_2.index t 3 = 0) t
  blk_ext [h.1, h.2.1, h.2.2.1, h.2.2.2, bOf, sOf]

theorem emb3 (t : Fin cfg0.N) (y : S4x512.Idx) : ((cfg0.win 3).blk t).view.emb y = ix2 (y 0) (sOf t (y 1)) := by
  have h := (by decide +kernel : ∀ t : Fin grid0.N, win0_3.index t 0 = 0 ∧ win0_3.index t 1 = t.val % 8) t
  blk_ext [h.1, h.2, sOf]

theorem emb4 (t : Fin cfg0.N) (y : S64x128.Idx) : ((cfg0.win 4).blk t).view.emb y = y := by
  have h := (by decide +kernel : ∀ t : Fin grid0.N, win0_4.index t 0 = 0 ∧ win0_4.index t 1 = 0) t
  blk_ext [h.1, h.2]

theorem emb5 (t : Fin cfg0.N) (y : S768x1024.Idx) : ((cfg0.win 5).blk t).view.emb y = y := by
  have h := (by decide +kernel : ∀ t : Fin grid0.N, win0_5.index t 0 = 0 ∧ win0_5.index t 1 = 0) t
  blk_ext [h.1, h.2]

theorem emb6 (t : Fin cfg0.N) (y : S6x8.Idx) : ((cfg0.win 6).blk t).view.emb y = y := by
  have h := (by decide +kernel : ∀ t : Fin grid0.N, win0_6.index t 0 = 0 ∧ win0_6.index t 1 = 0) t
  blk_ext [h.1, h.2]

theorem emb7 (t : Fin cfg0.N) (y : S1x512x768.Idx) : ((cfg0.win 7).blk t).view.emb y = ix3 (bOf t) (sOf t (y 1)) (y 2) := by
  have h := (by decide +kernel : ∀ t : Fin grid0.N, win0_7.index t 0 = t.val / 8 ∧ win0_7.index t 1 = t.val % 8 ∧ win0_7.index t 2 = 0) t
  blk_ext [h.1, h.2.1, h.2.2, bOf, sOf]

theorem emb8 (t : Fin cfg0.N) (y : S1x512x1024.Idx) : ((cfg0.win 8).blk t).view.emb y = ix3 (bOf t) (sOf t (y 1)) (y 2) := by
  have h := (by decide +kernel : ∀ t : Fin grid0.N, win0_8.index t 0 = t.val / 8 ∧ win0_8.index t 1 = t.val % 8 ∧ win0_8.index t 2 = 0) t
  blk_ext [h.1, h.2.1, h.2.2, bOf, sOf]

theorem emb9 (t : Fin cfg0.N) (y : S1x8x512.Idx) : ((cfg0.win 9).blk t).view.emb y = ix3 (bOf t) (y 1) (sOf t (y 2)) := by
  have h := (by decide +kernel : ∀ t : Fin grid0.N, win0_9.index t 0 = t.val / 8 ∧ win0_9.index t 1 = 0 ∧ win0_9.index t 2 = t.val % 8) t
  blk_ext [h.1, h.2.1, h.2.2, bOf, sOf]

theorem read0 (X : FVec Ideal S4x6x4096x128 .bf16) (t : Fin cfg0.N) (y : S1x6x512x128.Idx) :
    ((cfg0.win 0).blk t).view.read (Elt Ideal) X y = X (ix4 (bOf t) (y 1) (sOf t (y 2)) (y 3)) := congrArg X (emb0 t y)
theorem read1 (X : FVec Ideal S4x1x4096x128 .bf16) (t : Fin cfg0.N) (y : S1x1x512x128.Idx) :
    ((cfg0.win 1).blk t).view.read (Elt Ideal) X y = X (ix4 (bOf t) (y 1) (sOf t (y 2)) (y 3)) := congrArg X (emb1 t y)
theorem read2 (X : FVec Ideal S4x1x4096x128 .bf16) (t : Fin cfg0.N) (y : S1x1x512x128.Idx) :
    ((cfg0.win 2).blk t).view.read (Elt Ideal) X y = X (ix4 (bOf t) (y 1) (sOf t (y 2)) (y 3)) := congrArg X (emb2 t y)
theorem read3 (X : IVec S4x4096 32) (t : Fin cfg0.N) (y : S4x512.Idx) :
    ((cfg0.win 3).blk t).view.read (Elt Ideal) X y = X (ix2 (y 0) (sOf t (y 1))) := congrArg X (emb3 t y)
theorem read4 (X : FVec Ideal S64x128 .f32) (t : Fin cfg0.N) (y : S64x128.Idx) :
    ((cfg0.win 4).blk t).view.read (Elt Ideal) X y = X y := congrArg X (emb4 t y)
theorem read5 (X : FVec Ideal S768x1024 .fp8e4m3) (t : Fin cfg0.N) (y : S768x1024.Idx) :
    ((cfg0.win 5).blk t).view.read (Elt Ideal) X y = X y := congrArg X (emb5 t y)
theorem read6 (X : FVec Ideal S6x8 .f32) (t : Fin cfg0.N) (y : S6x8.Idx) :
    ((cfg0.win 6).blk t).view.read (Elt Ideal) X y = X y := congrArg X (emb6 t y)

/-! ## The blocks, in terms of the arguments -/

theorem blk0 (t : Fin cfg0.N) (h : Fin 6) (n : Fin 512) (e : Fin 128) : (iblk m c 0 t : Vec Ideal S1x6x512x128 .bf16) (ix4 0 h n e) =
    (m ((c : Thread nD τ).loc main_arg0) : FVec Ideal S4x4096x6x128 .bf16) (ix4 (bOf t) (sOf t n) h e) :=
  (read0 (V m c main_v13) t (ix4 0 h n e)).trans (q_in m c (bOf t) h (sOf t n) e)
theorem blk1 (t : Fin cfg0.N) (n : Fin 512) (e : Fin 128) : (iblk m c 1 t : Vec Ideal S1x1x512x128 .bf16) (ix4 0 0 n e) =
    (m ((c : Thread nD τ).loc main_arg1) : FVec Ideal S4x4096x1x128 .bf16) (ix4 (bOf t) (sOf t n) 0 e) :=
  (read1 (V m c main_v14) t (ix4 0 0 n e)).trans (k_in m c (bOf t) (sOf t n) e)
theorem blk2 (t : Fin cfg0.N) (n : Fin 512) (e : Fin 128) : (iblk m c 2 t : Vec Ideal S1x1x512x128 .bf16) (ix4 0 0 n e) =
    (m ((c : Thread nD τ).loc main_arg2) : FVec Ideal S4x4096x1x128 .bf16) (ix4 (bOf t) (sOf t n) 0 e) :=
  (read2 (V m c main_v15) t (ix4 0 0 n e)).trans (v_in m c (bOf t) (sOf t n) e)
theorem blk3 (t : Fin cfg0.N) (b : Fin 4) (n : Fin 512) : (iblk m c 3 t : Vec Ideal S4x512 .i32) (ix2 b n) =
    (m ((c : Thread nD τ).loc main_arg3) : IVec S4x4096 32) (ix2 b (sOf t n)) :=
  (read3 (V m c main_arg3) t (ix2 b n)).trans (congrFun (V_main_arg3 m c) _)
theorem blk4 (t : Fin cfg0.N) (k : Fin 64) (l : Fin 128) : (iblk m c 4 t : Vec Ideal S64x128 .f32) (ix2 k l) = Spec.freq k.val :=
  (read4 (V m c main_v12) t (ix2 k l)).trans (freq_in m c k l)
theorem blk5 (t : Fin cfg0.N) (d : Fin 768) (n : Fin 1024) : (iblk m c 5 t : Vec Ideal S768x1024 .fp8e4m3) (ix2 d n) =
    (m ((c : Thread nD τ).loc main_arg4) : FVec Ideal S768x1024 .fp8e4m3) (ix2 d n) :=
  (read5 (V m c main_arg4) t (ix2 d n)).trans (congrFun (V_main_arg4 m c) _)
theorem blk6 (t : Fin cfg0.N) (a : Fin 6) (h : Fin 8) : (iblk m c 6 t : Vec Ideal S6x8 .f32) (ix2 a h) =
    (m ((c : Thread nD τ).loc main_arg5) : FVec Ideal S6x8 .f32) (ix2 a h) :=
  (read6 (V m c main_arg5) t (ix2 a h)).trans (congrFun (V_main_arg5 m c) _)

/-- The eight head vectors of token `s` of batch `b`. -/
def tok (b : Fin 4) (s : Fin 4096) : Fin 8 → Fin 128 → EReal :=
  Spec.head ((m ((c : Thread nD τ).loc main_arg3) : IVec S4x4096 32) (ix2 b s))
    (fun h e => (m ((c : Thread nD τ).loc main_arg0) : FVec Ideal S4x4096x6x128 .bf16) (ix4 b s h e))
    (fun e => (m ((c : Thread nD τ).loc main_arg1) : FVec Ideal S4x4096x1x128 .bf16) (ix4 b s 0 e))
    (fun e => (m ((c : Thread nD τ).loc main_arg2) : FVec Ideal S4x4096x1x128 .bf16) (ix4 b s 0 e))

theorem head_congr {p p' : BitVec 32} {q q' : Fin 6 → Fin 128 → EReal} {k k' v v' : Fin 128 → EReal} (hp : p = p') (hq : q = q') (hk : k = k')
    (hv : v = v') : Spec.head p q k v = Spec.head p' q' k' v' := by subst hp hq hk hv; rfl

theorem vecs_tok (t : Fin cfg0.N) (n : Fin 512) :
    vecs (grid0.coords t) (iblk m c 0 t) (iblk m c 1 t) (iblk m c 2 t) (iblk m c 3 t) n = tok m c (bOf t) (sOf t n) :=
  head_congr ((blk3 m c t _ n).trans (congrArg (fun b => (m ((c : Thread nD τ).loc main_arg3) : IVec S4x4096 32) (ix2 b (sOf t n))) (coords_val t)))
    (funext fun h => funext fun e => blk0 m c t h n e) (funext fun e => blk1 m c t n e) (funext fun e => blk2 m c t n e)

end Cert.KernelIdeal.Tile
-- ==== Proof.KernelArrays.lean ====
/- The kernel's three results as arrays: the products, the codes and the scales. -/
module

public import proofs.«01_k».proof.Proof.KernelReads

@[expose] public section

set_option maxRecDepth 16384

noncomputable section

namespace Cert.KernelIdeal.Tile

open Idealize.ShloMosaic Idealize.SL.Sem Cert.KernelIdeal.Gen Idealize.ShloMosaic.TcCoe
open Idealize.ShloMosaic.StableHlo Idealize.ShloMosaic.Pipeline

variable (m : (ℓ : Loc nD τ sig) → Buf (Elt Ideal) ℓ) (c : Dev nD)

/-- The products. -/
def dxG : FVec Ideal S4x4096x768 .bf16 := fun y =>
  Spec.dot (tok m c (y 0) (y 1)) (fun n => (m ((c : Thread nD τ).loc main_arg4) : FVec Ideal S768x1024 .fp8e4m3) (ix2 (y 2) n))
    (fun h => (m ((c : Thread nD τ).loc main_arg5) : FVec Ideal S6x8 .f32) (ix2 ⟨(y 2).val / 128, by have : (y 2).val < 768 := (y 2).isLt; omega⟩ h))

/-- The codes. -/
def codesG : FVec Ideal S4x4096x1024 .fp8e5m2 := fun y =>
  Spec.code (tok m c (y 0) (y 1) ⟨(y 2).val / 128, by have : (y 2).val < 1024 := (y 2).isLt; omega⟩ ⟨(y 2).val % 128, by omega⟩)
    (Spec.scale (Spec.peak (tok m c (y 0) (y 1) ⟨(y 2).val / 128, by have : (y 2).val < 1024 := (y 2).isLt; omega⟩)))

/-- The scales as the call leaves them, head by head. -/
def rowsG : FVec Ideal S4x8x4096 .f32 := fun y => Spec.scale (Spec.peak (tok m c (y 0) (y 2) (y 1)))

theorem codes_block (t : Fin cfg0.N) (n : Fin 512) (j : Fin 1024) :
    codes (grid0.coords t) (iblk m c 0 t) (iblk m c 1 t) (iblk m c 2 t) (iblk m c 3 t) (iblk m c 4 t) (ix3 0 n j) = codesG m c (ix3 (bOf t) (sOf t n) j) :=
  (codes_val (grid0.coords t) (iblk m c 0 t) (iblk m c 1 t) (iblk m c 2 t) (iblk m c 3 t) (x4 := iblk m c 4 t) (blk4 m c t) n j).trans
    (congrArg (fun x : Fin 8 → Fin 128 → EReal => Spec.code (x (headOf j) (lane j)) (Spec.scale (Spec.peak (x (headOf j))))) (vecs_tok m c t n))

theorem scales_block (t : Fin cfg0.N) (h : Fin 8) (n : Fin 512) :
    scales (grid0.coords t) (iblk m c 0 t) (iblk m c 1 t) (iblk m c 2 t) (iblk m c 3 t) (iblk m c 4 t) (ix3 0 h n) = rowsG m c (ix3 (bOf t) h (sOf t n)) :=
  (scales_val (grid0.coords t) (iblk m c 0 t) (iblk m c 1 t) (iblk m c 2 t) (iblk m c 3 t) (x4 := iblk m c 4 t) (blk4 m c t) n h).trans
    (congrArg (fun x : Fin 8 → Fin 128 → EReal => Spec.scale (Spec.peak (x h))) (vecs_tok m c t n))

theorem dot_congr {x x' : Fin 8 → Fin 128 → EReal} {w w' : Fin 1024 → EReal} {ws ws' : Fin 8 → EReal} (hx : x = x') (hw : w = w') (hs : ws = ws') :
    Spec.dot x w ws = Spec.dot x' w' ws' := by subst hx hw hs; rfl

theorem dx_block (t : Fin cfg0.N) (n : Fin 512) (d : Fin 768) :
    k0_pay2 (carried m c) (grad (grid0.coords t) (iblk m c 0 t) (iblk m c 1 t) (iblk m c 2 t) (iblk m c 3 t) (iblk m c 4 t)) (ix3 0 n d) =
      dxG m c (ix3 (bOf t) (sOf t n) d) :=
  (dx_val (grid0.coords t) (iblk m c 0 t) (iblk m c 1 t) (iblk m c 2 t) (iblk m c 3 t) (x4 := iblk m c 4 t) (blk4 m c t) (iblk m c 5 first) (iblk m c 6 first) n d).trans
    (dot_congr (vecs_tok m c t n) (funext fun j => blk5 m c first d j) (funext fun h => blk6 m c first (wRow d) h))

theorem dx_final : (dats m 0 c).arrAt 7 cfg0.N = dxG m c := by
  refine (dats m 0 c).arrAt_eq_of_covers 7 _ (by decide +kernel) fun t _ y => ?_
  refine Eq.trans ?_ (congrArg (dxG m c) (emb7 t y)).symm
  blk_simp
  rw [after0_7, dx_at]
  have hy : y = ix3 0 (y 1) (y 2) := by funext a; match a with | ⟨0, _⟩ => exact Fin.ext (by have : (y 0).val < 1 := (y 0).isLt; show (y 0).val = 0; omega) | ⟨1, _⟩ => rfl | ⟨2, _⟩ => rfl
  exact (congrArg _ hy).trans (dx_block m c t (y 1) (y 2))

theorem codes_final : (dats m 0 c).arrAt 8 cfg0.N = codesG m c := by
  refine (dats m 0 c).arrAt_eq_of_covers 8 _ (by decide +kernel) fun t _ y => ?_
  refine Eq.trans ?_ (congrArg (codesG m c) (emb8 t y)).symm
  blk_simp
  rw [after0_8, codes_at]
  have hy : y = ix3 0 (y 1) (y 2) := by funext a; match a with | ⟨0, _⟩ => exact Fin.ext (by have : (y 0).val < 1 := (y 0).isLt; show (y 0).val = 0; omega) | ⟨1, _⟩ => rfl | ⟨2, _⟩ => rfl
  exact (congrArg _ hy).trans (codes_block m c t (y 1) (y 2))

theorem rows_final : (dats m 0 c).arrAt 9 cfg0.N = rowsG m c := by
  refine (dats m 0 c).arrAt_eq_of_covers 9 _ (by decide +kernel) fun t _ y => ?_
  refine Eq.trans ?_ (congrArg (rowsG m c) (emb9 t y)).symm
  blk_simp
  rw [after0_9, scales_at]
  have hy : y = ix3 0 (y 1) (y 2) := by funext a; match a with | ⟨0, _⟩ => exact Fin.ext (by have : (y 0).val < 1 := (y 0).isLt; show (y 0).val = 0; omega) | ⟨1, _⟩ => rfl | ⟨2, _⟩ => rfl
  exact (congrArg _ hy).trans (scales_block m c t (y 1) (y 2))

/-- The scales, token by token. -/
def scalesG : FVec Ideal S4x4096x8 .f32 := fun y => Spec.scale (Spec.peak (tok m c (y 0) (y 1) (y 2)))

theorem transposed_at (X : FVec Ideal S4x8x4096 .f32) (b : Fin 4) (s : Fin 4096) (h : Fin 8) :
    (transpose S4x4096x8 [0, 2, 1] X transposes_S4x8x4096_S4x4096x8_0_2_1 : FVec Ideal S4x4096x8 .f32) (ix3 b s h) = X (ix3 b h s) := by
  pointwise []

theorem transposed : (transpose S4x4096x8 [0, 2, 1] (rowsG m c) transposes_S4x8x4096_S4x4096x8_0_2_1 : FVec Ideal S4x4096x8 .f32) = scalesG m c := by
  funext y
  have hy : y = ix3 (y 0) (y 1) (y 2) := by funext a; match a with | ⟨0, _⟩ => rfl | ⟨1, _⟩ => rfl | ⟨2, _⟩ => rfl
  exact (congrArg _ hy).trans (transposed_at (rowsG m c) (y 0) (y 1) (y 2))

theorem after_call (σ : Valuation τ sig (Elt Ideal)) : after (List.flatten [hostOps1]) σ (Proc.tc.devRef main_v17) =
    transpose S4x4096x8 [0, 2, 1] (σ (Proc.tc.devRef main_v16_2) : FVec Ideal S4x8x4096 .f32) transposes_S4x8x4096_S4x4096x8_0_2_1 := by
  simp only [hostOps1, List.flatten_cons, List.flatten_nil, List.append_nil, after_cons, after_nil]
  exact unary_result ..

/-- The transpose after the call leaves the scales token by token. -/
theorem scales_final : afterTail₀ cfgs (dats m) 0 (V0 m) [hostOps1] c main_v17 = scalesG m c := by
  unfold afterTail₀
  refine Eq.trans ?_ (transposed m c)
  rw [← rows_final m c, ← withArrays_arr spec0 launch0.win.arr_inj c (V0 m c) (fun w => (dats m 0 c).arrAt w cfg0.N) 9]
  exact after_call _

/-- The kernel's run, its three results named. -/
theorem run (ρ : Dev nD → PrngReg) : θ_run defs (onTc (τ := τ) (main (F := Ideal))) ⟨m, fun _ => 0, ρ⟩ fun r => ∀ c : Dev nD,
      r.2.mem ((c : Thread nD τ).loc main_v16_0) = dxG m c
      ∧ r.2.mem ((c : Thread nD τ).loc main_v16_1) = codesG m c
      ∧ r.2.mem ((c : Thread nD τ).loc main_v17) = scalesG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 7).trans (dx_final m c),
      ((h c).1 8).trans (codes_final m c),
      ((h c).2 main_v17 (mem_restRefs_of main_v17 (by decide) (by decide))).trans (scales_final m c),
      ((h c).2 main_arg0 (mem_restRefs_of main_arg0 (by decide) (by decide))).trans (W_main_arg0 m (dats m) c),
      ((h c).2 main_arg1 (mem_restRefs_of main_arg1 (by decide) (by decide))).trans (W_main_arg1 m (dats m) c),
      ((h c).2 main_arg2 (mem_restRefs_of main_arg2 (by decide) (by decide))).trans (W_main_arg2 m (dats m) c),
      ((h c).1 3).trans (((dats m 0 c).arrAt_in 3 rfl _).trans ((A_eq m c 3).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c)))⟩)
    (run_main m ρ)

end Cert.KernelIdeal.Tile
-- ==== Proof.RefReads.lean ====
/- The reference's host operations, group by group, read at an index. -/
module

public import proofs.«01_k».proof.Proof.Gen.ReferenceIdeal.Value
public import proofs.«01_k».proof.Proof.Spec
public import Idealize.ShloMosaic.Lib.Claim
public import Idealize.ShloMosaic.Lib.StableHlo.ReadAt
public import Idealize.ShloMosaic.Lib.Pointwise

@[expose] public section

set_option maxRecDepth 16384

noncomputable section

namespace Cert.ReferenceIdeal.Ref

open Idealize.ShloMosaic Idealize.SL.Sem Cert.ReferenceIdeal.Gen Idealize.ShloMosaic.TcCoe

open Idealize.ShloMosaic.StableHlo

/-- The host operations up to the cosines and sines. -/
abbrev opsA : List (HloOp τ sig (Elt Ideal)) := List.flatten [hostOps0, hostOps0_1, hostOps0_2, hostOps0_3, hostOps0_4, hostOps0_5, hostOps0_6, hostOps0_7, hostOps0_8, hostOps0_9]
/-- The host operations from there to the rotated gradients, each on its own. -/
abbrev opsB : List (HloOp τ sig (Elt Ideal)) := hostOps0_10.take 41
/-- The host operation that joins the heads. -/
abbrev opsC : List (HloOp τ sig (Elt Ideal)) := (hostOps0_10.drop 41).take 1
/-- The magnitudes. -/
abbrev opsD1 : List (HloOp τ sig (Elt Ideal)) := (hostOps0_10.drop 42).take 1
/-- Their maximum. -/
abbrev opsD2 : List (HloOp τ sig (Elt Ideal)) := (hostOps0_10.drop 43).take 2
/-- Its scaling, and the comparison with the powers of two. -/
abbrev opsD3 : List (HloOp τ sig (Elt Ideal)) := hostOps0_10.drop 45
/-- The host operations from there to the call. -/
abbrev opsE : List (HloOp τ sig (Elt Ideal)) := List.flatten [hostOps0_14, hostOps0_15, hostOps0_16]

/-- An element of a float array, as an extended real. -/
abbrev el {S : Shape} {φ : FTy} (x : FVec Ideal S φ) (i : S.Idx) : EReal := x i

/-! ## Each group of operations, read at an index -/

theorem read_cos (σ : Valuation τ sig (Elt Ideal)) (b : Fin 4) (s : Fin 4096) (j : Fin 64) : (after opsA σ (Proc.tc.devRef main_v67) : FVec Ideal S4x4096x64 .f32) (ix3 b s j) = (Spec.cosA (Spec.angle ((σ (Proc.tc.devRef main_arg3) : IVec S4x4096 32) (ix2 b s)) j.val) : EReal) := by
  simp only [opsA, hostOps0, hostOps0_1, hostOps0_2, hostOps0_3, hostOps0_4, hostOps0_5, hostOps0_6, hostOps0_7, hostOps0_8, hostOps0_9, List.take_succ_cons, List.take_zero, List.drop_succ_cons, List.drop_zero, List.flatten_cons, List.flatten_nil, List.cons_append, List.nil_append, List.append_nil]
  after_reads_at
  all_goals rfl

theorem read_sin (σ : Valuation τ sig (Elt Ideal)) (b : Fin 4) (s : Fin 4096) (j : Fin 64) : (after opsA σ (Proc.tc.devRef main_v78) : FVec Ideal S4x4096x64 .f32) (ix3 b s j) = (Spec.sinA (Spec.angle ((σ (Proc.tc.devRef main_arg3) : IVec S4x4096 32) (ix2 b s)) j.val) : EReal) := by
  simp only [opsA, hostOps0, hostOps0_1, hostOps0_2, hostOps0_3, hostOps0_4, hostOps0_5, hostOps0_6, hostOps0_7, hostOps0_8, hostOps0_9, List.take_succ_cons, List.take_zero, List.drop_succ_cons, List.drop_zero, List.flatten_cons, List.flatten_nil, List.cons_append, List.nil_append, List.append_nil]
  after_reads_at
  all_goals rfl

theorem read_q (σ : Valuation τ sig (Elt Ideal)) (b : Fin 4) (s : Fin 4096) (h : Fin 6) (e : Fin 128) : (after opsB σ (Proc.tc.devRef main_v100) : FVec Ideal S4x4096x6x128 .f32) (ix4 b s h e) = (
      (if e.val % 2 < 1 then (el (S := S4x4096x6x128) (φ := .bf16) (σ (Proc.tc.devRef main_arg0) : FVec Ideal S4x4096x6x128 .bf16) (ix4 b s h ⟨e.val / 2 * 2, by omega⟩) * el (S := S4x4096x64) (φ := .f32) (σ (Proc.tc.devRef main_v67) : FVec Ideal S4x4096x64 .f32) (ix3 b s ⟨e.val / 2, by omega⟩) + el (S := S4x4096x6x128) (φ := .bf16) (σ (Proc.tc.devRef main_arg0) : FVec Ideal S4x4096x6x128 .bf16) (ix4 b s h ⟨e.val / 2 * 2 + 1, by omega⟩) * el (S := S4x4096x64) (φ := .f32) (σ (Proc.tc.devRef main_v78) : FVec Ideal S4x4096x64 .f32) (ix3 b s ⟨e.val / 2, by omega⟩) : EReal) else el (S := S4x4096x6x128) (φ := .bf16) (σ (Proc.tc.devRef main_arg0) : FVec Ideal S4x4096x6x128 .bf16) (ix4 b s h ⟨e.val / 2 * 2 + 1, by omega⟩) * el (S := S4x4096x64) (φ := .f32) (σ (Proc.tc.devRef main_v67) : FVec Ideal S4x4096x64 .f32) (ix3 b s ⟨e.val / 2, by omega⟩) - el (S := S4x4096x6x128) (φ := .bf16) (σ (Proc.tc.devRef main_arg0) : FVec Ideal S4x4096x6x128 .bf16) (ix4 b s h ⟨e.val / 2 * 2, by omega⟩) * el (S := S4x4096x64) (φ := .f32) (σ (Proc.tc.devRef main_v78) : FVec Ideal S4x4096x64 .f32) (ix3 b s ⟨e.val / 2, by omega⟩)) : EReal) := by
  simp only [opsB, hostOps0_10, List.take_succ_cons, List.take_zero, List.drop_succ_cons, List.drop_zero, List.flatten_cons, List.flatten_nil, List.cons_append, List.nil_append, List.append_nil]
  after_reads_at
  after_reads_at
  all_goals rfl

theorem read_k (σ : Valuation τ sig (Elt Ideal)) (b : Fin 4) (s : Fin 4096) (e : Fin 128) : (after opsB σ (Proc.tc.devRef main_v118) : FVec Ideal S4x4096x1x128 .f32) (ix4 b s 0 e) = (
      (if e.val % 2 < 1 then (el (S := S4x4096x1x128) (φ := .bf16) (σ (Proc.tc.devRef main_arg1) : FVec Ideal S4x4096x1x128 .bf16) (ix4 b s 0 ⟨e.val / 2 * 2, by omega⟩) * el (S := S4x4096x64) (φ := .f32) (σ (Proc.tc.devRef main_v67) : FVec Ideal S4x4096x64 .f32) (ix3 b s ⟨e.val / 2, by omega⟩) + el (S := S4x4096x1x128) (φ := .bf16) (σ (Proc.tc.devRef main_arg1) : FVec Ideal S4x4096x1x128 .bf16) (ix4 b s 0 ⟨e.val / 2 * 2 + 1, by omega⟩) * el (S := S4x4096x64) (φ := .f32) (σ (Proc.tc.devRef main_v78) : FVec Ideal S4x4096x64 .f32) (ix3 b s ⟨e.val / 2, by omega⟩) : EReal) else el (S := S4x4096x1x128) (φ := .bf16) (σ (Proc.tc.devRef main_arg1) : FVec Ideal S4x4096x1x128 .bf16) (ix4 b s 0 ⟨e.val / 2 * 2 + 1, by omega⟩) * el (S := S4x4096x64) (φ := .f32) (σ (Proc.tc.devRef main_v67) : FVec Ideal S4x4096x64 .f32) (ix3 b s ⟨e.val / 2, by omega⟩) - el (S := S4x4096x1x128) (φ := .bf16) (σ (Proc.tc.devRef main_arg1) : FVec Ideal S4x4096x1x128 .bf16) (ix4 b s 0 ⟨e.val / 2 * 2, by omega⟩) * el (S := S4x4096x64) (φ := .f32) (σ (Proc.tc.devRef main_v78) : FVec Ideal S4x4096x64 .f32) (ix3 b s ⟨e.val / 2, by omega⟩)) : EReal) := by
  simp only [opsB, hostOps0_10, List.take_succ_cons, List.take_zero, List.drop_succ_cons, List.drop_zero, List.flatten_cons, List.flatten_nil, List.cons_append, List.nil_append, List.append_nil]
  after_reads_at
  after_reads_at
  all_goals rfl

theorem read_v (σ : Valuation τ sig (Elt Ideal)) (b : Fin 4) (s : Fin 4096) (e : Fin 128) : (after opsB σ (Proc.tc.devRef main_v119) : FVec Ideal S4x4096x1x128 .f32) (ix4 b s 0 e) = (el (S := S4x4096x1x128) (φ := .bf16) (σ (Proc.tc.devRef main_arg2) : FVec Ideal S4x4096x1x128 .bf16) (ix4 b s 0 e) : EReal) := by
  simp only [opsB, hostOps0_10, List.take_succ_cons, List.take_zero, List.drop_succ_cons, List.drop_zero, List.flatten_cons, List.flatten_nil, List.cons_append, List.nil_append, List.append_nil]
  after_reads_at
  all_goals rfl

theorem read_heads (σ : Valuation τ sig (Elt Ideal)) (b : Fin 4) (s : Fin 4096) (h : Fin 8) (e : Fin 128) : (after opsC σ (Proc.tc.devRef main_v120) : FVec Ideal S4x4096x8x128 .f32) (ix4 b s h e) =
      (if hq : h.val < 6 then el (S := S4x4096x6x128) (φ := .f32) (σ (Proc.tc.devRef main_v100) : FVec Ideal S4x4096x6x128 .f32) (ix4 b s ⟨h.val, hq⟩ e) else if h.val - 6 < 1 then el (S := S4x4096x1x128) (φ := .f32) (σ (Proc.tc.devRef main_v118) : FVec Ideal S4x4096x1x128 .f32) (ix4 b s 0 e) else el (S := S4x4096x1x128) (φ := .f32) (σ (Proc.tc.devRef main_v119) : FVec Ideal S4x4096x1x128 .f32) (ix4 b s 0 e)) := by
  simp only [opsC, hostOps0_10, List.take_succ_cons, List.take_zero, List.drop_succ_cons, List.drop_zero, List.flatten_cons, List.flatten_nil, List.cons_append, List.nil_append, List.append_nil]
  after_results_simp
  pointwise
  have h8 := h.isLt
  by_cases h6 : h.val < 6
  · simp only [dif_pos h6]
  · simp only [dif_neg h6]
    by_cases h7 : h.val - 6 < 1
    · simp only [dif_pos h7, if_pos h7]
      exact congrArg (σ (Proc.tc.devRef main_v118) : FVec Ideal S4x4096x1x128 .f32) (congrArg (ix4 b s · e) (Subsingleton.elim _ _))
    · simp only [dif_neg h7, if_neg h7]
      exact congrArg (σ (Proc.tc.devRef main_v119) : FVec Ideal S4x4096x1x128 .f32) (congrArg (ix4 b s · e) (Subsingleton.elim _ _))

theorem read_abs (σ : Valuation τ sig (Elt Ideal)) (b : Fin 4) (s : Fin 4096) (h : Fin 8) (e : Fin 128) : (after opsD1 σ (Proc.tc.devRef main_v121) : FVec Ideal S4x4096x8x128 .f32) (ix4 b s h e) = (max (el (S := S4x4096x8x128) (φ := .f32) (σ (Proc.tc.devRef main_v120) : FVec Ideal S4x4096x8x128 .f32) (ix4 b s h e)) (-(el (S := S4x4096x8x128) (φ := .f32) (σ (Proc.tc.devRef main_v120) : FVec Ideal S4x4096x8x128 .f32) (ix4 b s h e)) : EReal) : EReal) := by
  simp only [opsD1, hostOps0_10, List.take_succ_cons, List.take_zero, List.drop_succ_cons, List.drop_zero, List.flatten_cons, List.flatten_nil, List.cons_append, List.nil_append, List.append_nil]
  after_reads_at
  all_goals rfl

theorem read_max (σ : Valuation τ sig (Elt Ideal)) (b : Fin 4) (s : Fin 4096) (h : Fin 8) : (after opsD2 σ (Proc.tc.devRef main_v122) : FVec Ideal S4x4096x8 .f32) (ix3 b s h) = (Finset.fold max (Spec.K 4286578688#32) (fun e => el (S := S4x4096x8x128) (φ := .f32) (σ (Proc.tc.devRef main_v121) : FVec Ideal S4x4096x8x128 .f32) (ix4 b s h e)) Finset.univ : EReal) := by
  simp only [opsD2, hostOps0_10, List.take_succ_cons, List.take_zero, List.drop_succ_cons, List.drop_zero, List.flatten_cons, List.flatten_nil, List.cons_append, List.nil_append, List.append_nil]
  after_reads_at
  all_goals rfl

theorem read_scaled (σ : Valuation τ sig (Elt Ideal)) (b : Fin 4) (s : Fin 4096) (h : Fin 8) : (after opsD3 σ (Proc.tc.devRef main_v124) : FVec Ideal S4x4096x8 .f32) (ix3 b s h) = (((el (S := S4x4096x8) (φ := .f32) (σ (Proc.tc.devRef main_v122) : FVec Ideal S4x4096x8 .f32) (ix3 b s h) : EReal) * Spec.K 932333861#32) : EReal) := by
  simp only [opsD3, hostOps0_10, List.take_succ_cons, List.take_zero, List.drop_succ_cons, List.drop_zero, List.flatten_cons, List.flatten_nil, List.cons_append, List.nil_append, List.append_nil]
  after_reads_at
  all_goals rfl

theorem read_less (σ : Valuation τ sig (Elt Ideal)) (b : Fin 4) (s : Fin 4096) (h : Fin 8) (k : Fin 239) : (after opsD3 σ (Proc.tc.devRef main_v129) : IVec S4x4096x8x239 1) (ix4 b s h k) = BitVec.ofBool (decide ((el (S := S4x4096x8) (φ := .f32) (σ (Proc.tc.devRef main_v122) : FVec Ideal S4x4096x8 .f32) (ix3 b s h) : EReal) * Spec.K 932333861#32 < (el (S := S239) (φ := .f32) (σ (Proc.tc.devRef main_cst) : FVec Ideal S239 .f32) (ix1 k) : EReal))) := by
  simp only [opsD3, hostOps0_10, List.take_succ_cons, List.take_zero, List.drop_succ_cons, List.drop_zero, List.flatten_cons, List.flatten_nil, List.cons_append, List.nil_append, List.append_nil]
  after_reads_at
  all_goals rfl

theorem read_top (σ : Valuation τ sig (Elt Ideal))  : (after opsD3 σ (Proc.tc.devRef main_cst_26) : FVec Ideal S_ .f32) (ix0) = (Spec.K 2013265920#32 : EReal) := by
  simp only [opsD3, hostOps0_10, List.take_succ_cons, List.take_zero, List.drop_succ_cons, List.drop_zero, List.flatten_cons, List.flatten_nil, List.cons_append, List.nil_append, List.append_nil]
  after_reads_at
  all_goals rfl

theorem read_where (σ : Valuation τ sig (Elt Ideal)) (b : Fin 4) (s : Fin 4096) (h : Fin 8) (k : Fin 239) : (after hostOps0_11 σ (Proc.tc.devRef main_v130) : FVec Ideal S4x4096x8x239 .f32) (ix4 b s h k) = (Scalar.select ((σ (Proc.tc.devRef main_v129) : IVec S4x4096x8x239 1) (ix4 b s h k)) (el (S := S239) (φ := .f32) (σ (Proc.tc.devRef main_cst) : FVec Ideal S239 .f32) (ix1 k)) (el (S := S_) (φ := .f32) (σ (Proc.tc.devRef main_cst_26) : FVec Ideal S_ .f32) (ix0)) : EReal) := by
  simp only [hostOps0_11, List.take_succ_cons, List.take_zero, List.drop_succ_cons, List.drop_zero, List.flatten_cons, List.flatten_nil, List.cons_append, List.nil_append, List.append_nil]
  after_reads_at
  all_goals rfl

theorem read_least (σ : Valuation τ sig (Elt Ideal)) (b : Fin 4) (s : Fin 4096) (h : Fin 8) : (after hostOps0_12 σ (Proc.tc.devRef main_v131) : FVec Ideal S4x4096x8 .f32) (ix3 b s h) = (Finset.fold min (Spec.K 2139095040#32) (fun k => el (S := S4x4096x8x239) (φ := .f32) (σ (Proc.tc.devRef main_v130) : FVec Ideal S4x4096x8x239 .f32) (ix4 b s h k)) Finset.univ : EReal) := by
  simp only [hostOps0_12, List.take_succ_cons, List.take_zero, List.drop_succ_cons, List.drop_zero, List.flatten_cons, List.flatten_nil, List.cons_append, List.nil_append, List.append_nil]
  after_reads_at
  all_goals rfl

theorem read_tiny (σ : Valuation τ sig (Elt Ideal)) (b : Fin 4) (s : Fin 4096) (h : Fin 8) : (after hostOps0_12 σ (Proc.tc.devRef main_v133) : IVec S4x4096x8 1) (ix3 b s h) = BitVec.ofBool (decide ((el (S := S4x4096x8) (φ := .f32) (σ (Proc.tc.devRef main_v124) : FVec Ideal S4x4096x8 .f32) (ix3 b s h) : EReal) < Spec.K 8388608#32)) := by
  simp only [hostOps0_12, List.take_succ_cons, List.take_zero, List.drop_succ_cons, List.drop_zero, List.flatten_cons, List.flatten_nil, List.cons_append, List.nil_append, List.append_nil]
  after_reads_at
  all_goals rfl

theorem read_one (σ : Valuation τ sig (Elt Ideal))  : (after hostOps0_12 σ (Proc.tc.devRef main_cst_29) : FVec Ideal S_ .f32) (ix0) = (1 : EReal) := by
  simp only [hostOps0_12, List.take_succ_cons, List.take_zero, List.drop_succ_cons, List.drop_zero, List.flatten_cons, List.flatten_nil, List.cons_append, List.nil_append, List.append_nil]
  after_reads_at
  all_goals rfl

theorem read_scale (σ : Valuation τ sig (Elt Ideal)) (b : Fin 4) (s : Fin 4096) (h : Fin 8) : (after hostOps0_13 σ (Proc.tc.devRef main_v134) : FVec Ideal S4x4096x8 .f32) (ix3 b s h) = (Scalar.select ((σ (Proc.tc.devRef main_v133) : IVec S4x4096x8 1) (ix3 b s h)) (el (S := S_) (φ := .f32) (σ (Proc.tc.devRef main_cst_29) : FVec Ideal S_ .f32) (ix0)) (el (S := S4x4096x8) (φ := .f32) (σ (Proc.tc.devRef main_v131) : FVec Ideal S4x4096x8 .f32) (ix3 b s h)) : EReal) := by
  simp only [hostOps0_13, List.take_succ_cons, List.take_zero, List.drop_succ_cons, List.drop_zero, List.flatten_cons, List.flatten_nil, List.cons_append, List.nil_append, List.append_nil]
  after_reads_at
  all_goals rfl

theorem read_codes (σ : Valuation τ sig (Elt Ideal)) (b : Fin 4) (s : Fin 4096) (n : Fin 1024) : (after opsE σ (Proc.tc.devRef main_v141) : FVec Ideal S4x4096x1024 .f32) (ix3 b s n) = (Spec.code (el (S := S4x4096x8x128) (φ := .f32) (σ (Proc.tc.devRef main_v120) : FVec Ideal S4x4096x8x128 .f32) (ix4 b s ⟨n.val / 128, by omega⟩ ⟨n.val % 128, by omega⟩)) (el (S := S4x4096x8) (φ := .f32) (σ (Proc.tc.devRef main_v134) : FVec Ideal S4x4096x8 .f32) (ix3 b s ⟨n.val / 128, by omega⟩)) : EReal) := by
  simp only [opsE, hostOps0_14, hostOps0_15, hostOps0_16, List.take_succ_cons, List.take_zero, List.drop_succ_cons, List.drop_zero, List.flatten_cons, List.flatten_nil, List.cons_append, List.nil_append, List.append_nil]
  after_reads_at
  all_goals rfl

theorem read_repeated (σ : Valuation τ sig (Elt Ideal)) (b : Fin 4) (s : Fin 4096) (n : Fin 1024) : (after opsE σ (Proc.tc.devRef main_v144) : FVec Ideal S4x4096x1024 .bf16) (ix3 b s n) = (el (S := S4x4096x8) (φ := .f32) (σ (Proc.tc.devRef main_v134) : FVec Ideal S4x4096x8 .f32) (ix3 b s ⟨n.val / 128, by omega⟩) : EReal) := by
  simp only [opsE, hostOps0_14, hostOps0_15, hostOps0_16, List.take_succ_cons, List.take_zero, List.drop_succ_cons, List.drop_zero, List.flatten_cons, List.flatten_nil, List.cons_append, List.nil_append, List.append_nil]
  after_reads_at
  all_goals rfl

theorem read_weights (σ : Valuation τ sig (Elt Ideal)) (d : Fin 768) (n : Fin 1024) : (after opsE σ (Proc.tc.devRef main_v149) : FVec Ideal S768x1024 .bf16) (ix2 d n) = (el (S := S6x8) (φ := .f32) (σ (Proc.tc.devRef main_arg5) : FVec Ideal S6x8 .f32) (ix2 ⟨d.val / 128, by omega⟩ ⟨n.val / 128, by omega⟩) : EReal) := by
  simp only [opsE, hostOps0_14, hostOps0_15, hostOps0_16, List.take_succ_cons, List.take_zero, List.drop_succ_cons, List.drop_zero, List.flatten_cons, List.flatten_nil, List.cons_append, List.nil_append, List.append_nil]
  after_reads_at
  all_goals rfl

theorem read_scales (σ : Valuation τ sig (Elt Ideal)) : after opsE σ (Proc.tc.devRef main_v134) = σ (Proc.tc.devRef main_v134) :=
  after_of_forall_not_mem _ _ (by decide +kernel)

theorem lit0_eq : ∀ k : Fin 239, lit0 k = BitVec.ofNat 32 ((k.val + 2) * 2 ^ 23) := by decide +kernel

theorem rowMajor_one (k : Fin 239) : S239.rowMajor (ix1 k) = k := by
  exact Fin.ext (by rw [Shape.rowMajor_val_one]; rfl)

theorem read_power (σ : Valuation τ sig (Elt Ideal)) (k : Fin 239) : (after opsA σ (Proc.tc.devRef main_cst) : FVec Ideal S239 .f32) (ix1 k) = Spec.power k := by
  simp only [opsA, hostOps0, hostOps0_1, hostOps0_2, hostOps0_3, hostOps0_4, hostOps0_5, hostOps0_6, hostOps0_7, hostOps0_8, hostOps0_9, List.take_succ_cons, List.take_zero, List.drop_succ_cons, List.drop_zero, List.flatten_cons, List.flatten_nil, List.cons_append, List.nil_append, List.append_nil]
  after_reads_at
  exact congrArg (Ideal.ofBits .f32) ((congrArg lit0 (rowMajor_one k)).trans (lit0_eq k))

end Cert.ReferenceIdeal.Ref
-- ==== Proof.RefValue.lean ====
/- What the reference's operands hold when its call is reached, and what its results hold at the end. -/
module

public import proofs.«01_k».proof.Proof.RefReads

@[expose] public section

set_option maxRecDepth 16384

noncomputable section

namespace Cert.ReferenceIdeal.Ref

open Idealize.ShloMosaic Idealize.SL.Sem Cert.ReferenceIdeal.Gen Idealize.ShloMosaic.TcCoe
open Idealize.ShloMosaic.StableHlo

variable (m : (ℓ : Loc nD τ sig) → Buf (Elt Ideal) ℓ) (c : Dev nD)

/-! ## The contents after each group of host operations -/

def s0 : Valuation τ sig (Elt Ideal) := fun b => m (c, b)
def s1 : Valuation τ sig (Elt Ideal) := after opsA (s0 m c)
def s2 : Valuation τ sig (Elt Ideal) := after opsB (s1 m c)
def s3 : Valuation τ sig (Elt Ideal) := after opsC (s2 m c)
def s4 : Valuation τ sig (Elt Ideal) := after opsD1 (s3 m c)
def s5 : Valuation τ sig (Elt Ideal) := after opsD2 (s4 m c)
def s6 : Valuation τ sig (Elt Ideal) := after opsD3 (s5 m c)
def s7 : Valuation τ sig (Elt Ideal) := after hostOps0_11 (s6 m c)
def s8 : Valuation τ sig (Elt Ideal) := after hostOps0_12 (s7 m c)
def s9 : Valuation τ sig (Elt Ideal) := after hostOps0_13 (s8 m c)

/-- The contents at the call are those after the last group. -/
theorem chain (r : Ref sig .tc) : V m c r = after opsE (s9 m c) (Proc.tc.devRef r) := by
  unfold V s9 s8 s7 s6 s5 s4 s3 s2 s1 s0
  simp only [← after_append]
  rfl

/-- A group of operations that does not write a buffer keeps it. -/
theorem kept {ops : List (HloOp τ sig (Elt Ideal))} (r : Ref sig .tc) (σ : Valuation τ sig (Elt Ideal))
    (h : ∀ op ∈ ops, Proc.devRef (τ := τ) .tc r ∉ op.writes) : after ops σ (Proc.tc.devRef r) = σ (Proc.tc.devRef r) :=
  after_of_forall_not_mem _ _ h

theorem kept_arg0_1 : s1 m c (Proc.tc.devRef main_arg0) = s0 m c (Proc.tc.devRef main_arg0) :=
  (kept main_arg0 (s0 m c) (by decide +kernel))
theorem kept_arg1_1 : s1 m c (Proc.tc.devRef main_arg1) = s0 m c (Proc.tc.devRef main_arg1) :=
  (kept main_arg1 (s0 m c) (by decide +kernel))
theorem kept_arg2_1 : s1 m c (Proc.tc.devRef main_arg2) = s0 m c (Proc.tc.devRef main_arg2) :=
  (kept main_arg2 (s0 m c) (by decide +kernel))
theorem kept_cst_5 : s5 m c (Proc.tc.devRef main_cst) = s1 m c (Proc.tc.devRef main_cst) :=
  ((kept main_cst (s4 m c) (by decide +kernel))).trans (((kept main_cst (s3 m c) (by decide +kernel))).trans (((kept main_cst (s2 m c) (by decide +kernel))).trans ((kept main_cst (s1 m c) (by decide +kernel)))))
theorem kept_cst_6 : s6 m c (Proc.tc.devRef main_cst) = s5 m c (Proc.tc.devRef main_cst) :=
  (kept main_cst (s5 m c) (by decide +kernel))
theorem kept_v120_9 : s9 m c (Proc.tc.devRef main_v120) = s3 m c (Proc.tc.devRef main_v120) :=
  ((kept main_v120 (s8 m c) (by decide +kernel))).trans (((kept main_v120 (s7 m c) (by decide +kernel))).trans (((kept main_v120 (s6 m c) (by decide +kernel))).trans (((kept main_v120 (s5 m c) (by decide +kernel))).trans (((kept main_v120 (s4 m c) (by decide +kernel))).trans ((kept main_v120 (s3 m c) (by decide +kernel)))))))
theorem kept_v124_7 : s7 m c (Proc.tc.devRef main_v124) = s6 m c (Proc.tc.devRef main_v124) :=
  (kept main_v124 (s6 m c) (by decide +kernel))
theorem kept_arg5_9 : s9 m c (Proc.tc.devRef main_arg5) = s0 m c (Proc.tc.devRef main_arg5) :=
  ((kept main_arg5 (s8 m c) (by decide +kernel))).trans (((kept main_arg5 (s7 m c) (by decide +kernel))).trans (((kept main_arg5 (s6 m c) (by decide +kernel))).trans (((kept main_arg5 (s5 m c) (by decide +kernel))).trans (((kept main_arg5 (s4 m c) (by decide +kernel))).trans (((kept main_arg5 (s3 m c) (by decide +kernel))).trans (((kept main_arg5 (s2 m c) (by decide +kernel))).trans (((kept main_arg5 (s1 m c) (by decide +kernel))).trans ((kept main_arg5 (s0 m c) (by decide +kernel))))))))))

/-! ## The heads, the scales and the call's operands -/

/-- The eight head vectors of a token. -/
def tok (b : Fin 4) (s : Fin 4096) : Fin 8 → Fin 128 → EReal :=
  Spec.head ((m ((c : Thread nD τ).loc main_arg3) : IVec S4x4096 32) (ix2 b s))
    (fun h e => (m ((c : Thread nD τ).loc main_arg0) : FVec Ideal S4x4096x6x128 .bf16) (ix4 b s h e))
    (fun e => (m ((c : Thread nD τ).loc main_arg1) : FVec Ideal S4x4096x1x128 .bf16) (ix4 b s 0 e))
    (fun e => (m ((c : Thread nD τ).loc main_arg2) : FVec Ideal S4x4096x1x128 .bf16) (ix4 b s 0 e))

/-- The rotation back, from its four reads. -/
theorem back_of (p : BitVec 32) (g : Fin 128 → EReal) (e : Fin 128) {cx sx xe xo : EReal}
    (hc : cx = Spec.cosA (Spec.angle p (e.val / 2))) (hs : sx = Spec.sinA (Spec.angle p (e.val / 2)))
    (he : xe = g ⟨e.val / 2 * 2, by omega⟩) (ho : xo = g ⟨e.val / 2 * 2 + 1, by omega⟩) :
    (if e.val % 2 < 1 then xe * cx + xo * sx else xo * cx - xe * sx) = Spec.back p g e := by
  subst hc hs he ho; rfl

/-- The joined heads, from the three reads. -/
theorem head_of (p : BitVec 32) (q : Fin 6 → Fin 128 → EReal) (k v : Fin 128 → EReal) (h : Fin 8) (e : Fin 128)
    {f : Fin 6 → EReal} {y z : EReal} (hf : ∀ h, f h = Spec.back p (q h) e) (hy : y = Spec.back p k e) (hz : z = v e) :
    (if hq : h.val < 6 then f ⟨h.val, hq⟩ else if h.val - 6 < 1 then y else z) = Spec.head p q k v h e := by
  obtain rfl : f = fun h => Spec.back p (q h) e := funext hf
  subst hy hz; rfl

/-- A selection by a comparison, from its reads. -/
theorem select_of {w : BitVec 1} {x x' y y' u u' v v' : EReal} (hw : w = BitVec.ofBool (decide (x < y))) (hx : x = x') (hy : y = y')
    (hu : u = u') (hv : v = v') : Scalar.select w u v = if x' < y' then u' else v' := by
  subst hw hx hy hu hv
  rw [Scalar.select_ofBool]
  simp only [decide_eq_true_eq]

theorem q_at (b : Fin 4) (s : Fin 4096) (h : Fin 6) (e : Fin 128) :
    (s2 m c (Proc.tc.devRef main_v100) : FVec Ideal S4x4096x6x128 .f32) (ix4 b s h e) =
      Spec.back ((m ((c : Thread nD τ).loc main_arg3) : IVec S4x4096 32) (ix2 b s))
        (fun e => (m ((c : Thread nD τ).loc main_arg0) : FVec Ideal S4x4096x6x128 .bf16) (ix4 b s h e)) e :=
  (read_q (s1 m c) b s h e).trans (back_of _ _ e (read_cos (s0 m c) b s ⟨e.val / 2, by omega⟩)
    (read_sin (s0 m c) b s ⟨e.val / 2, by omega⟩) (congrFun (kept_arg0_1 m c) _) (congrFun (kept_arg0_1 m c) _))

theorem k_at (b : Fin 4) (s : Fin 4096) (e : Fin 128) :
    (s2 m c (Proc.tc.devRef main_v118) : FVec Ideal S4x4096x1x128 .f32) (ix4 b s 0 e) =
      Spec.back ((m ((c : Thread nD τ).loc main_arg3) : IVec S4x4096 32) (ix2 b s))
        (fun e => (m ((c : Thread nD τ).loc main_arg1) : FVec Ideal S4x4096x1x128 .bf16) (ix4 b s 0 e)) e :=
  (read_k (s1 m c) b s e).trans (back_of _ _ e (read_cos (s0 m c) b s ⟨e.val / 2, by omega⟩)
    (read_sin (s0 m c) b s ⟨e.val / 2, by omega⟩) (congrFun (kept_arg1_1 m c) _) (congrFun (kept_arg1_1 m c) _))

theorem v_at (b : Fin 4) (s : Fin 4096) (e : Fin 128) :
    (s2 m c (Proc.tc.devRef main_v119) : FVec Ideal S4x4096x1x128 .f32) (ix4 b s 0 e) =
      (m ((c : Thread nD τ).loc main_arg2) : FVec Ideal S4x4096x1x128 .bf16) (ix4 b s 0 e) :=
  (read_v (s1 m c) b s e).trans (congrFun (kept_arg2_1 m c) _)

theorem head_at (b : Fin 4) (s : Fin 4096) (h : Fin 8) (e : Fin 128) :
    (s3 m c (Proc.tc.devRef main_v120) : FVec Ideal S4x4096x8x128 .f32) (ix4 b s h e) = tok m c b s h e :=
  (read_heads (s2 m c) b s h e).trans (head_of _ _ _ _ h e (fun h => q_at m c b s h e) (k_at m c b s e) (v_at m c b s e))

theorem fold_at (b : Fin 4) (s : Fin 4096) (h : Fin 8) :
    (s5 m c (Proc.tc.devRef main_v122) : FVec Ideal S4x4096x8 .f32) (ix3 b s h) =
      Finset.fold max (Spec.K 4286578688#32) (fun e => max (tok m c b s h e) (-(tok m c b s h e))) Finset.univ :=
  (read_max (s4 m c) b s h).trans (congrArg (fun f => Finset.fold max (Spec.K 4286578688#32) f Finset.univ) (funext fun e =>
    (read_abs (s3 m c) b s h e).trans (congrArg (fun x : EReal => max x (-x)) (head_at m c b s h e))))

theorem peak_at (b : Fin 4) (s : Fin 4096) (h : Fin 8) :
    (s6 m c (Proc.tc.devRef main_v124) : FVec Ideal S4x4096x8 .f32) (ix3 b s h) = Spec.peak (tok m c b s h) :=
  (read_scaled (s5 m c) b s h).trans (congrArg (fun x : EReal => x * Spec.K 932333861#32) (fold_at m c b s h))

theorem power_at (k : Fin 239) : (s5 m c (Proc.tc.devRef main_cst) : FVec Ideal S239 .f32) (ix1 k) = Spec.power k :=
  (congrFun (kept_cst_5 m c) (ix1 k)).trans (read_power (s0 m c) k)

theorem above_at (b : Fin 4) (s : Fin 4096) (h : Fin 8) :
    (s8 m c (Proc.tc.devRef main_v131) : FVec Ideal S4x4096x8 .f32) (ix3 b s h) = Spec.above (Spec.peak (tok m c b s h)) :=
  (read_least (s7 m c) b s h).trans (congrArg (fun f => Finset.fold min (Spec.K 2139095040#32) f Finset.univ) (funext fun k =>
    (read_where (s6 m c) b s h k).trans (select_of (read_less (s5 m c) b s h k)
      (congrArg (fun x : EReal => x * Spec.K 932333861#32) (fold_at m c b s h)) (power_at m c k)
      ((congrFun (kept_cst_6 m c) (ix1 k)).trans (power_at m c k)) (read_top (s5 m c)))))

theorem scale_at (b : Fin 4) (s : Fin 4096) (h : Fin 8) :
    (s9 m c (Proc.tc.devRef main_v134) : FVec Ideal S4x4096x8 .f32) (ix3 b s h) = Spec.scale (Spec.peak (tok m c b s h)) :=
  (read_scale (s8 m c) b s h).trans (select_of (read_tiny (s7 m c) b s h)
    ((congrFun (kept_v124_7 m c) (ix3 b s h)).trans (peak_at m c b s h)) rfl (read_one (s7 m c)) (above_at m c b s h))

/-- The codes before their cast. -/
theorem codes_in (b : Fin 4) (s : Fin 4096) (n : Fin 1024) :
    (V m c main_v141 : FVec Ideal S4x4096x1024 .f32) (ix3 b s n) =
      Spec.code (tok m c b s ⟨n.val / 128, by omega⟩ ⟨n.val % 128, by omega⟩)
        (Spec.scale (Spec.peak (tok m c b s ⟨n.val / 128, by omega⟩))) :=
  (congrFun (chain m c main_v141) (ix3 b s n)).trans ((read_codes (s9 m c) b s n).trans (congrArg₂ Spec.code
    ((congrFun (kept_v120_9 m c) _).trans (head_at m c b s _ _)) (scale_at m c b s _)))

/-- The scales, one per lane. -/
theorem repeated_in (b : Fin 4) (s : Fin 4096) (n : Fin 1024) :
    (V m c main_v144 : FVec Ideal S4x4096x1024 .bf16) (ix3 b s n) =
      Spec.scale (Spec.peak (tok m c b s ⟨n.val / 128, by omega⟩)) :=
  (congrFun (chain m c main_v144) (ix3 b s n)).trans ((read_repeated (s9 m c) b s n).trans (scale_at m c b s _))

/-- The weights' scales, one per weight. -/
theorem weights_in (d : Fin 768) (n : Fin 1024) :
    (V m c main_v149 : FVec Ideal S768x1024 .bf16) (ix2 d n) =
      (m ((c : Thread nD τ).loc main_arg5) : FVec Ideal S6x8 .f32) (ix2 ⟨d.val / 128, by omega⟩ ⟨n.val / 128, by omega⟩) :=
  (congrFun (chain m c main_v149) (ix2 d n)).trans ((read_weights (s9 m c) d n).trans (congrFun (kept_arg5_9 m c) _))

/-- The scales, in the order (batch, token, head). -/
theorem scales_in (b : Fin 4) (s : Fin 4096) (h : Fin 8) :
    (V m c main_v134 : FVec Ideal S4x4096x8 .f32) (ix3 b s h) = Spec.scale (Spec.peak (tok m c b s h)) :=
  (congrFun (chain m c main_v134) (ix3 b s h)).trans ((congrFun (read_scales (s9 m c)) (ix3 b s h)).trans (scale_at m c b s h))

end Cert.ReferenceIdeal.Ref
-- ==== Proof.RefArrays.lean ====
/- The reference's three results as arrays: the products, the codes and the scales. -/
module

public import proofs.«01_k».proof.Proof.RefValue
public import Idealize.ShloMosaic.Lib.Pipeline.ValueKit

@[expose] public section

set_option maxRecDepth 16384

noncomputable section

namespace Cert.ReferenceIdeal.Ref

open Idealize.ShloMosaic Idealize.SL.Sem Cert.ReferenceIdeal.Gen Idealize.ShloMosaic.TcCoe
open Idealize.ShloMosaic.StableHlo Idealize.ShloMosaic.Pipeline

variable (m : (ℓ : Loc nD τ sig) → Buf (Elt Ideal) ℓ) (c : Dev nD)

/-- The products. -/
def dxG : FVec Ideal S4x4096x768 .bf16 := fun y =>
  Spec.dot (tok m c (y 0) (y 1)) (fun n => (m ((c : Thread nD τ).loc main_arg4) : FVec Ideal S768x1024 .fp8e4m3) (ix2 (y 2) n))
    (fun h => (m ((c : Thread nD τ).loc main_arg5) : FVec Ideal S6x8 .f32) (ix2 ⟨(y 2).val / 128, by have : (y 2).val < 768 := (y 2).isLt; omega⟩ h))

/-- The codes. -/
def codesG : FVec Ideal S4x4096x1024 .fp8e5m2 := fun y =>
  Spec.code (tok m c (y 0) (y 1) ⟨(y 2).val / 128, by have : (y 2).val < 1024 := (y 2).isLt; omega⟩ ⟨(y 2).val % 128, by omega⟩)
    (Spec.scale (Spec.peak (tok m c (y 0) (y 1) ⟨(y 2).val / 128, by have : (y 2).val < 1024 := (y 2).isLt; omega⟩)))

/-- The scales. -/
def scalesG : FVec Ideal S4x4096x8 .f32 := fun y => Spec.scale (Spec.peak (tok m c (y 0) (y 1) (y 2)))

theorem pay2_at (v0 : Vec Ideal S4x4096x1024 .f32) (v5 : Vec Ideal S4x4096x1024 .bf16) (v8 : Vec Ideal S768x1024 .fp8e4m3) (v10 : Vec Ideal S768x1024 .bf16)
    (b : Fin 4) (s : Fin 4096) (d : Fin 768) : (k0_pay2 v0 v5 v8 v10) (ix3 b s d) =
      (∑ n : Fin 1024, el (S := S4x4096x1024) (φ := .f32) v0 (ix3 b s n) * el (S := S4x4096x1024) (φ := .bf16) v5 (ix3 b s n) * (el (S := S768x1024) (φ := .fp8e4m3) v8 (ix2 d n) * el (S := S768x1024) (φ := .bf16) v10 (ix2 d n)) : EReal) := by
  pointwise [k0_pay2, k0_pay1]

/-- Each operand's block is its whole array. -/
theorem emb0 (y : S4x4096x1024.Idx) : ((cfg0.win 0).blk t0_0).view.emb y = y := by
  have h : ∀ a, win0_0.index t0_0 a = 0 := by decide +kernel
  blk_ext [h 0, h 1, h 2]
theorem emb1 (y : S4x4096x1024.Idx) : ((cfg0.win 1).blk t0_0).view.emb y = y := by
  have h : ∀ a, win0_1.index t0_0 a = 0 := by decide +kernel
  blk_ext [h 0, h 1, h 2]
theorem emb2 (y : S768x1024.Idx) : ((cfg0.win 2).blk t0_0).view.emb y = y := by
  have h : ∀ a, win0_2.index t0_0 a = 0 := by decide +kernel
  blk_ext [h 0, h 1]
theorem emb3 (y : S768x1024.Idx) : ((cfg0.win 3).blk t0_0).view.emb y = y := by
  have h : ∀ a, win0_3.index t0_0 a = 0 := by decide +kernel
  blk_ext [h 0, h 1]

theorem whole0 (X : FVec Ideal S4x4096x1024 .f32) : ((cfg0.win 0).blk t0_0).view.read (Elt Ideal) X = X :=
  funext fun y => congrArg X (emb0 y)
theorem whole1 (X : FVec Ideal S4x4096x1024 .bf16) : ((cfg0.win 1).blk t0_0).view.read (Elt Ideal) X = X :=
  funext fun y => congrArg X (emb1 y)
theorem whole2 (X : FVec Ideal S768x1024 .fp8e4m3) : ((cfg0.win 2).blk t0_0).view.read (Elt Ideal) X = X :=
  funext fun y => congrArg X (emb2 y)
theorem whole3 (X : FVec Ideal S768x1024 .bf16) : ((cfg0.win 3).blk t0_0).view.read (Elt Ideal) X = X :=
  funext fun y => congrArg X (emb3 y)

/-- The product of operands that hold the codes, the scales and the weights' scales. -/
theorem product_of (v0 : Vec Ideal S4x4096x1024 .f32) (v5 : Vec Ideal S4x4096x1024 .bf16) (v8 : Vec Ideal S768x1024 .fp8e4m3) (v10 : Vec Ideal S768x1024 .bf16)
    (x : Fin 4 → Fin 4096 → Fin 8 → Fin 128 → EReal) (w : Fin 768 → Fin 1024 → EReal) (ws : Fin 6 → Fin 8 → EReal)
    (h0 : ∀ b s (n : Fin 1024), v0 (ix3 b s n) = Spec.code (x b s ⟨n.val / 128, by omega⟩ ⟨n.val % 128, by omega⟩) (Spec.scale (Spec.peak (x b s ⟨n.val / 128, by omega⟩))))
    (h5 : ∀ b s (n : Fin 1024), v5 (ix3 b s n) = Spec.scale (Spec.peak (x b s ⟨n.val / 128, by omega⟩)))
    (h8 : ∀ (d : Fin 768) (n : Fin 1024), v8 (ix2 d n) = w d n)
    (h10 : ∀ (d : Fin 768) (n : Fin 1024), v10 (ix2 d n) = ws ⟨d.val / 128, by omega⟩ ⟨n.val / 128, by omega⟩)
    (b : Fin 4) (s : Fin 4096) (d : Fin 768) : (k0_pay2 v0 v5 v8 v10) (ix3 b s d) =
      Spec.dot (x b s) (w d) (ws ⟨d.val / 128, by omega⟩) := by
  refine (pay2_at _ _ _ _ b s d).trans ?_
  unfold Spec.dot
  refine Finset.sum_congr rfl fun n _ => ?_
  show (_ : EReal) = _
  simp only [el, h0, h5, h8, h10]

/-- What the call leaves in the products' block. -/
theorem dx_block (j : S4x4096x768.Idx) : (dats m 0 c).after 4 t0_0 j = dxG m c j := by
  rw [after0_4]
  refine (congrFun (View.canon_unit_zero (by decide) _ _) j).trans ?_
  have hj : j = ix3 (j 0) (j 1) (j 2) := by funext a; match a with | ⟨0, _⟩ => rfl | ⟨1, _⟩ => rfl | ⟨2, _⟩ => rfl
  rw [hj]
  exact product_of _ _ _ _ (tok m c) (fun d n => (m ((c : Thread nD τ).loc main_arg4) : FVec Ideal S768x1024 .fp8e4m3) (ix2 d n)) (fun i j => (m ((c : Thread nD τ).loc main_arg5) : FVec Ideal S6x8 .f32) (ix2 i j))
    (fun b s n => (congrFun ((View.ld_unit_zero (by decide) _ _).trans (whole0 (V m c main_v141))) _).trans (codes_in m c b s n))
    (fun b s n => (congrFun ((View.ld_unit_zero (by decide) _ _).trans (whole1 (V m c main_v144))) _).trans (repeated_in m c b s n))
    (fun d n => (congrFun ((View.ld_unit_zero (by decide) _ _).trans (whole2 (V m c main_arg4))) _).trans (congrFun (V_main_arg4 m c) _))
    (fun d n => (congrFun ((View.ld_unit_zero (by decide) _ _).trans (whole3 (V m c main_v149))) _).trans (weights_in m c d n))
    (j 0) (j 1) (j 2)

theorem pay1_at (v : Vec Ideal S4x4096x1024 .f32) (j : S4x4096x1024.Idx) : k0_pay1 v j = v j := by
  pointwise [k0_pay1]

/-- What it leaves in the codes' block. -/
theorem codes_block (j : S4x4096x1024.Idx) : (dats m 0 c).after 5 t0_0 j = codesG m c j := by
  rw [after0_5]
  refine (congrFun (View.canon_unit_zero (by decide) _ _) j).trans ?_
  refine (pay1_at _ j).trans ?_
  refine (congrFun ((View.ld_unit_zero (by decide) _ _).trans (whole0 (V m c main_v141))) j).trans ?_
  have hj : j = ix3 (j 0) (j 1) (j 2) := by funext a; match a with | ⟨0, _⟩ => rfl | ⟨1, _⟩ => rfl | ⟨2, _⟩ => rfl
  rw [hj]
  exact codes_in m c (j 0) (j 1) (j 2)

theorem dx_final : (dats m 0 c).arrAt 4 cfg0.N = dxG m c := by
  refine (dats m 0 c).arrAt_eq_of_after_last 4 t0_0 (by decide +kernel) _ fun j => ?_
  blk_simp
  exact dx_block m c j

theorem codes_final : (dats m 0 c).arrAt 5 cfg0.N = codesG m c := by
  refine (dats m 0 c).arrAt_eq_of_after_last 5 t0_0 (by decide +kernel) _ fun j => ?_
  blk_simp
  exact codes_block m c j

theorem scales_final : V m c main_v134 = scalesG m c := by
  funext j
  have hj : j = ix3 (j 0) (j 1) (j 2) := by funext a; match a with | ⟨0, _⟩ => rfl | ⟨1, _⟩ => rfl | ⟨2, _⟩ => rfl
  rw [hj]
  exact scales_in m c (j 0) (j 1) (j 2)

/-- The reference's run, its three results named. -/
theorem run (ρ : Dev nD → PrngReg) : θ_run defs (onTc (τ := τ) (main (F := Ideal))) ⟨m, fun _ => 0, ρ⟩ fun r => ∀ c : Dev nD,
      r.2.mem ((c : Thread nD τ).loc main_v150_0) = dxG m c
      ∧ r.2.mem ((c : Thread nD τ).loc main_v150_1) = codesG m c
      ∧ r.2.mem ((c : Thread nD τ).loc main_v134) = scalesG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(Value.post4 m r h c).trans (dx_final m c),
      (Value.post5 m r h c).trans (codes_final m c),
      ((h c).2 main_v134 (Pipeline.mem_restRefs_of main_v134 (by decide) (by decide))).trans (scales_final m c),
      Value.kept_main_arg0 m r h c,
      Value.kept_main_arg1 m r h c,
      Value.kept_main_arg2 m r h c,
      Value.kept_main_arg3 m r h c,
      Value.kept_main_arg4 m r h c,
      Value.kept_main_arg5 m r h c⟩)
    (run_main m ρ)

end Cert.ReferenceIdeal.Ref
-- ==== Proof.Equation.lean ====
/- The kernel's three arrays are the reference's, from equal arguments. -/
module

public import proofs.«01_k».proof.Defs
public import proofs.«01_k».proof.Proof.KernelArrays
public import proofs.«01_k».proof.Proof.RefArrays

@[expose] public section

set_option maxRecDepth 16384

noncomputable section

namespace Cert.Equation

open Idealize.ShloMosaic Idealize.SL.Sem Idealize.ShloMosaic.TcCoe

abbrev K.Mem := (ℓ : Loc Cert.KernelIdeal.nD Cert.KernelIdeal.τ Cert.KernelIdeal.sig) → Buf (Elt Ideal) ℓ
abbrev R.Mem := (ℓ : Loc Cert.ReferenceIdeal.nD Cert.ReferenceIdeal.τ Cert.ReferenceIdeal.sig) → Buf (Elt Ideal) ℓ

variable (m : K.Mem) (m' : R.Mem) (c : Dev Cert.KernelIdeal.nD)

/-- The token vectors agree when the gradients and the positions do. -/
theorem tok_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (b : Fin 4) (s : Fin 4096) : Cert.ReferenceIdeal.Ref.tok m' c b s = Cert.KernelIdeal.Tile.tok m c b s :=
  Cert.KernelIdeal.Tile.head_congr (congrFun h3 _) (funext fun h => funext fun e => congrFun h0 _) (funext fun e => congrFun h1 _) (funext fun e => congrFun h2 _)

theorem dx_eq (ht : ∀ b s, Cert.ReferenceIdeal.Ref.tok m' c b s = Cert.KernelIdeal.Tile.tok m c b s)
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Ref.dxG m' c = Cert.KernelIdeal.Tile.dxG m c :=
  funext fun y => Cert.KernelIdeal.Tile.dot_congr (ht _ _) (funext fun n => congrFun h4 _) (funext fun h => congrFun h5 _)

theorem codes_eq (ht : ∀ b s, Cert.ReferenceIdeal.Ref.tok m' c b s = Cert.KernelIdeal.Tile.tok m c b s) :
    Cert.ReferenceIdeal.Ref.codesG m' c = Cert.KernelIdeal.Tile.codesG m c :=
  funext fun y => congrArg (fun x : Fin 8 → Fin 128 → EReal =>
    Spec.code (x ⟨(y 2).val / 128, by have : (y 2).val < 1024 := (y 2).isLt; omega⟩ ⟨(y 2).val % 128, by omega⟩)
      (Spec.scale (Spec.peak (x ⟨(y 2).val / 128, by have : (y 2).val < 1024 := (y 2).isLt; omega⟩)))) (ht _ _)

theorem scales_eq (ht : ∀ b s, Cert.ReferenceIdeal.Ref.tok m' c b s = Cert.KernelIdeal.Tile.tok m c b s) :
    Cert.ReferenceIdeal.Ref.scalesG m' c = Cert.KernelIdeal.Tile.scalesG m c :=
  funext fun y => congrArg (fun x : Fin 8 → Fin 128 → EReal => Spec.scale (Spec.peak (x (y 2)))) (ht _ _)

/-- Both programs run and end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨Cert.KernelIdeal.Tile.dxG m, Cert.KernelIdeal.Tile.codesG m, Cert.KernelIdeal.Tile.scalesG m, Cert.KernelIdeal.Tile.run m g, ?_⟩
  refine (θ_run _ _ _).mono (fun r h c => ?_) (Cert.ReferenceIdeal.Ref.run m' g')
  obtain ⟨h0, h1, h2, h3, h4, h5⟩ := hagree c
  obtain ⟨r0, r1, r2, rest⟩ := h c
  have ht := tok_eq m m' c h0 h1 h2 h3
  exact ⟨r0.trans (dx_eq m m' c ht h4 h5), r1.trans (codes_eq m m' c ht), r2.trans (scales_eq m m' c ht), rest⟩

end Cert.Equation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Equation
public import Idealize.ShloMosaic.Lib.Bf16Pair
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    IdealRules.bf16_pair.statement Cert.KernelIdeal.S128x128 Cert.KernelIdeal.S64x128,
    Cert.Equation.algebraic⟩

end Cert.Proof

end
